-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)
  ∧ IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S2048x6144 : Shape := ⟨2, ![2048, 6144]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1x2048x2048 .f32) (main_arg1 : FVec F S2048x6144 .f32) (main_arg2 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S1x2048x2048 : Shape := ⟨3, ![1, 2048, 2048]⟩
abbrev S2048x6144 : Shape := ⟨2, ![2048, 6144]⟩
abbrev S2048x2048 : Shape := ⟨2, ![2048, 2048]⟩
abbrev S2048x768 : Shape := ⟨2, ![2048, 768]⟩
abbrev S1x768 : Shape := ⟨2, ![1, 768]⟩
abbrev S256 : Shape := ⟨1, ![256]⟩
abbrev S256x1 : Shape := ⟨2, ![256, 1]⟩
abbrev S768 : Shape := ⟨1, ![768]⟩
abbrev S_ : Shape := ⟨0, ![]⟩
abbrev S256x768 : Shape := ⟨2, ![256, 768]⟩
abbrev S256x2048 : Shape := ⟨2, ![256, 2048]⟩
abbrev S256x128 : Shape := ⟨2, ![256, 128]⟩
abbrev S256x256 : Shape := ⟨2, ![256, 256]⟩

abbrev nBuf : Space → Nat
  | .hbm => 53
  | .vmem => 25
  | .smem => 0
  | _ => 0

abbrev bufTy : (tb : Table) → Fin (tcTables nBuf tb) → BufTy
  | .hbm, ⟨0, _⟩ => ⟨S1x2048x2048, .f32⟩
  | .hbm, ⟨1, _⟩ => ⟨S2048x6144, .f32⟩
  | .hbm, ⟨2, _⟩ => ⟨S2048x2048, .f32⟩
  | .hbm, ⟨3, _⟩ => ⟨S2048x2048, .f32⟩
  | .hbm, ⟨4, _⟩ => ⟨S2048x6144, .bf16⟩
  | .hbm, ⟨5, _⟩ => ⟨S256, .i32⟩
  | .hbm, ⟨6, _⟩ => ⟨S256x1, .i32⟩
  | .hbm, ⟨7, _⟩ => ⟨S768, .i32⟩
  | .hbm, ⟨8, _⟩ => ⟨S1x768, .i32⟩
  | .hbm, ⟨9, _⟩ => ⟨S_, .i32⟩
  | .hbm, ⟨10, _⟩ => ⟨S1x768, .i32⟩
  | .hbm, ⟨11, _⟩ => ⟨S1x768, .i32⟩
  | .hbm, ⟨12, _⟩ => ⟨S_, .i32⟩
  | .hbm, ⟨13, _⟩ => ⟨S1x768, .i32⟩
  | .hbm, ⟨14, _⟩ => ⟨S1x768, .i32⟩
  | .hbm, ⟨15, _⟩ => ⟨S_, .i32⟩
  | .hbm, ⟨16, _⟩ => ⟨S256x1, .i32⟩
  | .hbm, ⟨17, _⟩ => ⟨S256x1, .i32⟩
  | .hbm, ⟨18, _⟩ => ⟨S256x768, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S1x768, .i32⟩
  | .hbm, ⟨23, _⟩ => ⟨S1x768, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x768, .i32⟩
  | .hbm, ⟨28, _⟩ => ⟨S256x768, .i32⟩
  | .hbm, ⟨29, _⟩ => ⟨S256x768, .i32⟩
  | .hbm, ⟨30, _⟩ => ⟨S_, .i32⟩
  | .hbm, ⟨31, _⟩ => ⟨S256x768, .i32⟩
  | .hbm, ⟨32, _⟩ => ⟨S256x768, .i1⟩
  | .hbm, ⟨33, _⟩ => ⟨S_, .i32⟩
  | .hbm, ⟨34, _⟩ => ⟨S256x768, .i32⟩
  | .hbm, ⟨35, _⟩ => ⟨S256x768, .i1⟩
  | .hbm, ⟨36, _⟩ => ⟨S256x768, .i1⟩
  | .hbm, ⟨37, _⟩ => ⟨S_, .i32⟩
  | .hbm, ⟨38, _⟩ => ⟨S256x768, .i32⟩
  | .hbm, ⟨39, _⟩ => ⟨S256x768, .i1⟩
  | .hbm, ⟨40, _⟩ => ⟨S256x768, .i1⟩
  | .hbm, ⟨41, _⟩ => ⟨S_, .i32⟩
  | .hbm, ⟨42, _⟩ => ⟨S256x768, .i32⟩
  | .hbm, ⟨43, _⟩ => ⟨S256x768, .i1⟩
  | .hbm, ⟨44, _⟩ => ⟨S256x768, .i1⟩
  | .hbm, ⟨45, _⟩ => ⟨S_, .f32⟩
  | .hbm, ⟨46, _⟩ => ⟨S_, .f32⟩
  | .hbm, ⟨47, _⟩ => ⟨S256x768, .f32⟩
  | .hbm, ⟨48, _⟩ => ⟨S256x768, .f32⟩
  | .hbm, ⟨49, _⟩ => ⟨S256x768, .f32⟩
  | .hbm, ⟨50, _⟩ => ⟨S256x768, .f32⟩
  | .hbm, ⟨51, _⟩ => ⟨S2048x2048, .f32⟩
  | .hbm, ⟨52, _⟩ => ⟨S1x2048x2048, .f32⟩
  | .local _ .vmem, ⟨0, _⟩ => ⟨S2048x2048, .f32⟩
  | .local _ .vmem, ⟨1, _⟩ => ⟨S2048x768, .f32⟩
  | .local _ .vmem, ⟨2, _⟩ => ⟨S2048x768, .f32⟩
  | .local _ .vmem, ⟨3, _⟩ => ⟨S2048x768, .bf16⟩
  | .local _ .vmem, ⟨4, _⟩ => ⟨S2048x768, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S2048x2048, .f32⟩
  | .local _ .vmem, ⟨20, _⟩ => ⟨S256x768, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S2048x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.addi v0 c0_i32
  let c0_i32_0 : BitVec 32 := 0#32
  let c7_i32 : BitVec 32 := 7#32
  let v2 : BitVec 32 := Scalar.maxsi c0_i32_0 v1
  let v3 : BitVec 32 := Scalar.minsi c7_i32 v2
  let c1_i32_1 : BitVec 32 := 1#32
  let c0_i32_2 : BitVec 32 := 0#32
  ![v3.toNat, c1_i32_1.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.addi v0 c1_i32_0
  let c0_i32 : BitVec 32 := 0#32
  let c7_i32 : BitVec 32 := 7#32
  let v2 : BitVec 32 := Scalar.maxsi c0_i32 v1
  let v3 : BitVec 32 := Scalar.minsi c7_i32 v2
  let c1_i32_1 : BitVec 32 := 1#32
  let c0_i32_2 : BitVec 32 := 0#32
  ![v3.toNat, c1_i32_1.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c2_i32 : BitVec 32 := 2#32
  let v1 : BitVec 32 := Scalar.addi v0 c2_i32
  let c0_i32 : BitVec 32 := 0#32
  let c7_i32 : BitVec 32 := 7#32
  let v2 : BitVec 32 := Scalar.maxsi c0_i32 v1
  let v3 : BitVec 32 := Scalar.minsi c7_i32 v2
  let c1_i32_0 : BitVec 32 := 1#32
  let c0_i32_1 : BitVec 32 := 0#32
  ![v3.toNat, c1_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.addi v0 c0_i32
  let c0_i32_0 : BitVec 32 := 0#32
  let c7_i32 : BitVec 32 := 7#32
  let v2 : BitVec 32 := Scalar.maxsi c0_i32_0 v1
  let v3 : BitVec 32 := Scalar.minsi c7_i32 v2
  let c2_i32 : BitVec 32 := 2#32
  let c0_i32_1 : BitVec 32 := 0#32
  ![v3.toNat, c2_i32.toNat]

def cc1_transform_5 (i : grid1.Coords) : Fin 2 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.addi v0 c1_i32_0
  let c0_i32 : BitVec 32 := 0#32
  let c7_i32 : BitVec 32 := 7#32
  let v2 : BitVec 32 := Scalar.maxsi c0_i32 v1
  let v3 : BitVec 32 := Scalar.minsi c7_i32 v2
  let c2_i32 : BitVec 32 := 2#32
  let c0_i32_1 : BitVec 32 := 0#32
  ![v3.toNat, c2_i32.toNat]

def cc1_transform_6 (i : grid1.Coords) : Fin 2 → Nat :=
  let arg0 : BitVec 32 := BitVec.ofNat 32 (i 0).val
  let c1_i32 : BitVec 32 := 1#32
  let v0 : BitVec 32 := Scalar.subi arg0 c1_i32
  let c2_i32 : BitVec 32 := 2#32
  let v1 : BitVec 32 := Scalar.addi v0 c2_i32
  let c0_i32 : BitVec 32 := 0#32
  let c7_i32 : BitVec 32 := 7#32
  let v2 : BitVec 32 := Scalar.maxsi c0_i32 v1
  let v3 : BitVec 32 := Scalar.minsi c7_i32 v2
  let c2_i32_0 : BitVec 32 := 2#32
  let c0_i32_1 : BitVec 32 := 0#32
  ![v3.toNat, c2_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "mask" => some ⊥
  | "qscale" => some (((Real.log 2)⁻¹ * (Real.sqrt 128)⁻¹ : ℝ) : EReal)
  | _ => none
-- ==== ReferenceIdeal.lean ====
abbrev S1x2048x2048 : Shape := ⟨3, ![1, 2048, 2048]⟩
abbrev S2048x6144 : Shape := ⟨2, ![2048, 6144]⟩
abbrev S2048x2048 : Shape := ⟨2, ![2048, 2048]⟩
abbrev S1x2048x6144 : Shape := ⟨3, ![1, 2048, 6144]⟩
abbrev S1x2048x16x128 : Shape := ⟨4, ![1, 2048, 16, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S64 : Shape := ⟨1, ![64]⟩
abbrev S32 : Shape := ⟨1, ![32]⟩
abbrev S64x32 : Shape := ⟨2, ![64, 32]⟩
abbrev S2048 : Shape := ⟨1, ![2048]⟩
abbrev S1x2048 : Shape := ⟨2, ![1, 2048]⟩
abbrev S2048x1 : Shape := ⟨2, ![2048, 1]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x6144, .f32⟩
  | .hbm, ⟨2, _⟩ => ⟨S2048x2048, .f32⟩
  | .hbm, ⟨3, _⟩ => ⟨S1x2048x6144, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x16x128, .f32⟩
  | .hbm, ⟨8, _⟩ => ⟨S1x16x2048x128, .f32⟩
  | .hbm, ⟨9, _⟩ => ⟨S1x2048x16x128, .f32⟩
  | .hbm, ⟨10, _⟩ => ⟨S1x16x2048x128, .f32⟩
  | .hbm, ⟨11, _⟩ => ⟨S1x2048x16x128, .f32⟩
  | .hbm, ⟨12, _⟩ => ⟨S1x16x2048x128, .f32⟩
  | .hbm, ⟨13, _⟩ => ⟨S1x16x2048x2048, .f32⟩
  | .hbm, ⟨14, _⟩ => ⟨S_, .f32⟩
  | .hbm, ⟨15, _⟩ => ⟨S_, .f32⟩
  | .hbm, ⟨16, _⟩ => ⟨S1x16x2048x2048, .f32⟩
  | .hbm, ⟨17, _⟩ => ⟨S1x16x2048x2048, .f32⟩
  | .hbm, ⟨18, _⟩ => ⟨S64, .i32⟩
  | .hbm, ⟨19, _⟩ => ⟨S32, .i32⟩
  | .hbm, ⟨20, _⟩ => ⟨S64x32, .i32⟩
  | .hbm, ⟨21, _⟩ => ⟨S64x32, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S1x2048, .i32⟩
  | .hbm, ⟨43, _⟩ => ⟨S2048x1, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S1x2048, .i32⟩
  | .hbm, ⟨48, _⟩ => ⟨S2048x1, .i32⟩
  | .hbm, ⟨49, _⟩ => ⟨S2048x2048, .i32⟩
  | .hbm, ⟨50, _⟩ => ⟨S2048x2048, .i32⟩
  | .hbm, ⟨51, _⟩ => ⟨S2048x2048, .i1⟩
  | .hbm, ⟨52, _⟩ => ⟨S2048x2048, .i1⟩
  | .hbm, ⟨53, _⟩ => ⟨S1x2048, .i32⟩
  | .hbm, ⟨54, _⟩ => ⟨S2048x1, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S1x2048, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S2048x2048, .i1⟩
  | .hbm, ⟨64, _⟩ => ⟨S2048x2048, .i1⟩
  | .hbm, ⟨65, _⟩ => ⟨S1x1x2048x2048, .i1⟩
  | .hbm, ⟨66, _⟩ => ⟨S_, .f32⟩
  | .hbm, ⟨67, _⟩ => ⟨S_, .f32⟩
  | .hbm, ⟨68, _⟩ => ⟨S1x16x2048x2048, .i1⟩
  | .hbm, ⟨69, _⟩ => ⟨S1x16x2048x2048, .f32⟩
  | .hbm, ⟨70, _⟩ => ⟨S1x16x2048x2048, .f32⟩
  | .hbm, ⟨71, _⟩ => ⟨S_, .f32⟩
  | .hbm, ⟨72, _⟩ => ⟨S1x16x2048, .f32⟩
  | .hbm, ⟨73, _⟩ => ⟨S_, .f32⟩
  | .hbm, ⟨74, _⟩ => ⟨S1x16x2048, .f32⟩
  | .hbm, ⟨75, _⟩ => ⟨S1x16x2048, .f32⟩
  | .hbm, ⟨76, _⟩ => ⟨S1x16x2048x1, .f32⟩
  | .hbm, ⟨77, _⟩ => ⟨S1x16x2048x2048, .f32⟩
  | .hbm, ⟨78, _⟩ => ⟨S1x16x2048x2048, .f32⟩
  | .hbm, ⟨79, _⟩ => ⟨S1x16x2048x2048, .f32⟩
  | .hbm, ⟨80, _⟩ => ⟨S_, .f32⟩
  | .hbm, ⟨81, _⟩ => ⟨S1x16x2048, .f32⟩
  | .hbm, ⟨82, _⟩ => ⟨S1x16x2048x1, .f32⟩
  | .hbm, ⟨83, _⟩ => ⟨S1x16x2048x2048, .f32⟩
  | .hbm, ⟨84, _⟩ => ⟨S1x16x2048x2048, .f32⟩
  | .hbm, ⟨85, _⟩ => ⟨S1x16x2048x128, .f32⟩
  | .hbm, ⟨86, _⟩ => ⟨S1x2048x16x128, .f32⟩
  | .hbm, ⟨87, _⟩ => ⟨S1x2048x2048, .f32⟩
  | .hbm, ⟨88, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Proof.Heads.lean ====
/- One attention head of the second kernel, at one block of 256 queries, written once for all sixteen heads:
   the scores against the three neighbouring key blocks, the row maximum, the weights, the row sum, the weighted
   sum of the values and its normalisation. The sixteen heads of the printed body are this function at sixteen
   column offsets. -/
module

public import proofs.«01_k».proof.Proof.Gen.KernelIdeal.Skeleton
public import Idealize.ShloMosaic.Lib.Pipeline.FrameBody

@[expose] public section

set_option maxRecDepth 16384

noncomputable section

namespace Cert.KernelIdeal.Attn

open Idealize.ShloMosaic Idealize.SL.Sem Cert.KernelIdeal Cert.KernelIdeal.Gen

variable {F : FTy → Type} [FloatOps F] [Named F]

/-- The constant a masked score is replaced by. -/
def maskC : F .f32 := Named.named κ "mask" 0xCE6E6B28#32

/-- The columns of head `h` in a block of 2048 columns: `128 h … 128 h + 127`, all 256 rows. -/
def headCols (h : Fin 16) : Rect S256x2048 :=
  Rect.unit (s := S256x2048) ![0, 128 * h.val] S256x128.size (by
    intro a; have := h.isLt; fin_cases a <;> simp [S256x2048, S256x128] <;> omega)

/-- The columns of key block `j` in a bias row of 768 columns: `256 j … 256 j + 255`, all 256 rows. -/
def biasCols (j : Fin 3) : Rect S256x768 :=
  Rect.unit (s := S256x768) ![0, 256 * j.val] S256x256.size (by
    intro a; have := j.isLt; fin_cases a <;> simp [S256x768, S256x256] <;> omega)

/-- Whether key block `t - 1 + j` of query block `t` exists (is one of the eight). -/
def blockOk (t j : BitVec 32) : BitVec 1 :=
  Scalar.andi (Scalar.cmpi .sge (Scalar.addi (Scalar.subi t 1#32) j) 0#32)
    (Scalar.cmpi .slt (Scalar.addi (Scalar.subi t 1#32) j) 8#32)

/-- The biased scores of the queries `q` against the keys `k` of one key block, masked when the block does not exist. -/
def score (t j : BitVec 32) (q k : FVec F S256x128 .bf16) (b : FVec F S256x256 .f32) : FVec F S256x256 .f32 :=
  Scalar.select (blockOk t j)
    (addf (matmul dot_S256x128_S256x128_S256x256_1_1_0_0_n_n none
        (shapeCast S256x128 q shapeCasts_S256x128_S256x128) (shapeCast S256x128 k shapeCasts_S256x128_S256x128)
        (constant S256x256 .f32 0x00000000#32))
      (shapeCast S256x256 b shapeCasts_S256x256_S256x256))
    (broadcast S256x256 maskC)

/-- The maximum of each row of one block of scores. -/
def rowMax (s : FVec F S256x256 .f32) : FVec F S256x1 .f32 :=
  shapeCast S256x1 (multiReduction .maximumf [1] S256 s 0xFF800000#32 reduces_S256x256_S256 (.inl rfl) rfl) shapeCasts_S256_S256x1

/-- The sum of each row of one block of weights. -/
def rowSum (s : FVec F S256x256 .f32) : FVec F S256x1 .f32 :=
  shapeCast S256x1 (multiReduction .add [1] S256 s 0x00000000#32 reduces_S256x256_S256 (.inl rfl) rfl) shapeCasts_S256_S256x1

/-- The weights of one block: two to the scores less the row's shift. -/
def weight (s : FVec F S256x256 .f32) (mx : FVec F S256x1 .f32) : FVec F S256x256 .f32 :=
  exp2 (subf s (broadcastTo S256x256 mx broadcasts_S256x1_S256x256))

/-- The weighted sum of one block's values. -/
def mix (e : FVec F S256x256 .f32) (v : FVec F S256x128 .bf16) : FVec F S256x128 .f32 :=
  matmul dot_S256x256_S256x128_S256x128_1_0_0_1_n_n none (truncf .bf16 e bitsLt_bf16_f32)
    (shapeCast S256x128 v shapeCasts_S256x128_S256x128) (constant S256x128 .f32 0x00000000#32)

/-- The head's output from its three blocks of scores and of values. -/
def finish (s0 s1 s2 : FVec F S256x256 .f32) (mx : FVec F S256x1 .f32) (v0 v1 v2 : FVec F S256x128 .bf16) :
    FVec F S256x128 .bf16 :=
  shapeCast S256x128
    (truncf .bf16
      (mulf
        (addf (addf (addf (broadcast S256x128 (Scalar.ofBits .f32 0x00000000#32)) (mix (weight s0 mx) v0))
          (mix (weight s1 mx) v1)) (mix (weight s2 mx) v2))
        (broadcastTo S256x128
          (divf (broadcast S256x1 (Scalar.ofBits .f32 0x3F800000#32))
            (addf (addf (rowSum (weight s0 mx)) (rowSum (weight s1 mx))) (rowSum (weight s2 mx))))
          broadcasts_S256x1_S256x128))
      bitsLt_bf16_f32)
    shapeCasts_S256x128_S256x128

/-- The shift of a row: the maximum over its three blocks of scores. -/
def shift (s0 s1 s2 : FVec F S256x256 .f32) : FVec F S256x1 .f32 :=
  maximumf (maximumf (rowMax s0) (rowMax s1)) (rowMax s2)

/-- One head from its queries, its three blocks of keys and of values, and the three blocks of bias. -/
def head (t : BitVec 32) (q k0 k1 k2 v0 v1 v2 : FVec F S256x128 .bf16) (b0 b1 b2 : FVec F S256x256 .f32) :
    FVec F S256x128 .bf16 :=
  finish (score t 0#32 q k0 b0) (score t 1#32 q k1 b1) (score t 2#32 q k2 b2)
    (shift (score t 0#32 q k0 b0) (score t 1#32 q k1 b1) (score t 2#32 q k2 b2)) v0 v1 v2

/-- Head `h` of the block at grid coordinates `i`: `head` of the operands' columns of that head. -/
def headAt (i : grid1.Coords) (x0 x1 x2 x3 x4 x5 x6 : Vec F S256x2048 .bf16) (x8 : Vec F S256x768 .f32) (h : Fin 16) :
    FVec F S256x128 .bf16 :=
  head (BitVec.ofNat 32 (i 0).val) (View.ld x0 (headCols h)) (View.ld x1 (headCols h)) (View.ld x2 (headCols h))
    (View.ld x3 (headCols h)) (View.ld x4 (headCols h)) (View.ld x5 (headCols h)) (View.ld x6 (headCols h))
    (View.ld x8 (biasCols 0)) (View.ld x8 (biasCols 1)) (View.ld x8 (biasCols 2))

/-- The sixteen heads as pieces of the block of attention outputs, the last head first. -/
def headPieces (i : grid1.Coords) (x0 x1 x2 x3 x4 x5 x6 : Vec F S256x2048 .bf16) (x8 : Vec F S256x768 .f32) :
    List (View.Piece (Elt F) S256x2048 .bf16) :=
  [15, 14, 13, 12, 11, 10, 9, 8, 7, 6, 5, 4, 3, 2, 1, 0].map fun h : Fin 16 =>
    ⟨headCols h, headAt i x0 x1 x2 x3 x4 x5 x6 x8 h⟩

/-- The block of attention outputs, all heads side by side. -/
def headsOut (i : grid1.Coords) (x0 x1 x2 x3 x4 x5 x6 : Vec F S256x2048 .bf16) (x8 : Vec F S256x768 .f32) :
    Vec F S256x2048 .bf16 := View.canon (headPieces i x0 x1 x2 x3 x4 x5 x6 x8)

end Cert.KernelIdeal.Attn

end
-- ==== Proof.Body.lean ====
/- The second kernel's body at one grid point, run once on any staging buffers: what it leaves in the output block
   and in the two scratch buffers, in closed form. -/
module

public import proofs.«01_k».proof.Proof.Heads
public import Idealize.ShloMosaic.Lib.Ring
public import Idealize.ShloMosaic.Lib.Tactic
public import Idealize.ShloMosaic.Lib.Pipeline.ValueKit.Acc

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The body's one branch condition: the grid point is the first. -/
abbrev first (i : grid1.Coords) : Prop :=
  (Scalar.cmpi .ne (Scalar.extui (Scalar.cmpi .eq (BitVec.ofNat 32 (i 0).val) 0#32)) 0#32) = 1#1

open Classical in
/-- The output weights in the carried scratch after the body: rounded from the operand at the first point, kept after. -/
def carried (i : grid1.Coords) (x7 : Vec F S2048x2048 .f32) (w : Vec F S2048x2048 .bf16) : Vec F S2048x2048 .bf16 :=
  if first i then k1_pay1 x7 else w

/-- The output block: the attention outputs of all heads times the carried output weights. -/
def blockOut (i : grid1.Coords) (x0 x1 x2 x3 x4 x5 x6 : Vec F S256x2048 .bf16) (x8 : Vec F S256x768 .f32)
    (w : Vec F S2048x2048 .bf16) : Vec F S256x2048 .f32 :=
  k1_pay188 (headsOut i x0 x1 x2 x3 x4 x5 x6 x8) w

/-- What a buffer reads after a store of the whole of it: the value stored. -/
theorem read_whole {sig' : RefSig} {κ' : Kind} {sp : Space} {s : Shape} {e : EltTy} (v : View sig' κ' sp s e)
    (f : v.ty.Contents (Elt F)) {off : Fin s.rank → ℕ} (inb : ∀ a, off a + s.size a ≤ s.size a)
    (z : ∀ a, off a = 0) (p : s.Idx → Elt F e) :
    v.read (Elt F) (v.writes (Elt F) f [⟨Rect.unit off s.size inb, p⟩]) = p := by
  have hcov : ∀ y : s.Idx, y ∈ (Rect.unit off s.size inb).set := fun y =>
    Rect.mem_set_unit.mpr fun a => ⟨(z a).le.trans (Nat.zero_le _), by rw [z a, Nat.zero_add]; exact (y a).isLt⟩
  rw [View.read_writes_eq_canon v f _ fun y => ⟨_, List.mem_singleton_self _, hcov y⟩]
  exact View.canon_cons_unit_lit inb p [] z

/-- The output block from the sixteen heads read back from the scratch they were stored in. -/
theorem blockOut_read {sig' : RefSig} {κ' : Kind} {sp : Space} (v : View sig' κ' sp S256x2048 .bf16) (i : grid1.Coords)
    (x0 x1 x2 x3 x4 x5 x6 : Vec F S256x2048 .bf16) (x8 : Vec F S256x768 .f32) (w : Vec F S2048x2048 .bf16) :
    k1_pay188 (v.readCov (headPieces i x0 x1 x2 x3 x4 x5 x6 x8)
        (Rect.unit ![0, 0] S256x2048.size inb_S256x2048_S256x2048_0_0).toLoadRect) w
      = blockOut i x0 x1 x2 x3 x4 x5 x6 x8 w := by
  refine congrArg (fun a => k1_pay188 a w) ?_
  rw [View.readCov_eq_canon']
  exact View.ld_unit_lit inb_S256x2048_S256x2048_0_0 (headsOut i x0 x1 x2 x3 x4 x5 x6 x8) (by decide)

set_option maxHeartbeats 4000000 in
/-- The body at one grid point, from the nine operand blocks and the carried output weights: it leaves the operands as
    they were, the output block at `blockOut` of them, the carried weights at `carried`. At the first point it rounds
    the output weights into the carried scratch; at the later points it finds them there. -/
theorem body_triple (c : Dev nD) (E : Set ℕ) (i : grid1.Coords)
    (a1 : Memref sig .tc .vmem S256x2048 .bf16) (h1 : a1.IsWhole)
    (a2 : Memref sig .tc .vmem S256x2048 .bf16) (h2 : a2.IsWhole)
    (a3 : Memref sig .tc .vmem S256x2048 .bf16) (h3 : a3.IsWhole)
    (a4 : Memref sig .tc .vmem S256x2048 .bf16) (h4 : a4.IsWhole)
    (a5 : Memref sig .tc .vmem S256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S2048x2048 .f32) (h8 : a8.IsWhole)
    (a9 : Memref sig .tc .vmem S256x768 .f32) (h9 : a9.IsWhole)
    (a10 : Memref sig .tc .vmem S256x2048 .f32) (h10 : a10.IsWhole)
    (a11 : Memref sig .tc .vmem S256x2048 .bf16) (h11 : a11.IsWhole)
    (a12 : Memref sig .tc .vmem S2048x2048 .bf16) (h12 : a12.IsWhole)
    (x0 x1 x2 x3 x4 x5 x6 : Vec F S256x2048 .bf16) (x7 : Vec F S2048x2048 .f32) (x8 : Vec F S256x768 .f32)
    (w : Vec F S2048x2048 .bf16) (K : PUnit → sProp 𝕄) :
    iprop(owns (c : Thread nD τ) a1 fullShare x0
        ∗ owns (c : Thread nD τ) a2 fullShare x1
        ∗ owns (c : Thread nD τ) a3 fullShare x2
        ∗ owns (c : Thread nD τ) a4 fullShare x3
        ∗ owns (c : Thread nD τ) a5 fullShare x4
        ∗ owns (c : Thread nD τ) a6 fullShare x5
        ∗ owns (c : Thread nD τ) a7 fullShare x6
        ∗ owns (c : Thread nD τ) a8 fullShare x7
        ∗ owns (c : Thread nD τ) a9 fullShare x8
        ∗ (∃ d, owns (c : Thread nD τ) a10 fullShare d) ∗ (∃ d, owns (c : Thread nD τ) a11 fullShare d)
        ∗ owns (c : Thread nD τ) a12 fullShare w
        ∗ (iprop(owns (c : Thread nD τ) a1 fullShare x0
        ∗ owns (c : Thread nD τ) a2 fullShare x1
        ∗ owns (c : Thread nD τ) a3 fullShare x2
        ∗ owns (c : Thread nD τ) a4 fullShare x3
        ∗ owns (c : Thread nD τ) a5 fullShare x4
        ∗ owns (c : Thread nD τ) a6 fullShare x5
        ∗ owns (c : Thread nD τ) a7 fullShare x6
        ∗ owns (c : Thread nD τ) a8 fullShare x7
        ∗ owns (c : Thread nD τ) a9 fullShare x8
            ∗ owns (c : Thread nD τ) a10 fullShare (blockOut i x0 x1 x2 x3 x4 x5 x6 x8 (carried i x7 w))
            ∗ (∃ d, owns (c : Thread nD τ) a11 fullShare d)
            ∗ owns (c : Thread nD τ) a12 fullShare (carried i x7 w)) -∗ K ⟨⟩))
      ⊢ wp frame (wpE (defs₀ (F := F)) Variants.none c none) E (cc1__attn_kernel i a1 h1 a2 h2 a3 h3 a4 h4 a5 h5 a6 h6 a7 h7 a8 h8 a9 h9 a10 h10 a11 h11 a12 h12) K := by
  simp only [cc1__attn_kernel_eq_skeleton]; unfold cc1__attn_kernel_skel
  simp only [k1_part42_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%ds0, %fs0, -, HS0⟩, ⟨%fs1, %es1, HS1⟩, Hk⟩
  subst e0 e1 e2 e3 e4 e5 e6 e7 e8 es1
  by_cases hc : first i
  · sl_exec (disch := first | sl_exact hc)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      refine (read_whole a10.view f9 inb_S256x2048_S256x2048_0_0 (by decide) _).trans ?_
      refine Eq.trans (show _ = k1_pay188 (a11.view.readCov (headPieces i (a1.view.read (Elt F) f0) (a2.view.read (Elt F) f1) (a3.view.read (Elt F) f2) (a4.view.read (Elt F) f3) (a5.view.read (Elt F) f4) (a6.view.read (Elt F) f5) (a7.view.read (Elt F) f6)
        (a9.view.read (Elt F) f8)) (Rect.unit ![0, 0] S256x2048.size inb_S256x2048_S256x2048_0_0).toLoadRect) (a12.view.readCov [⟨Rect.unit ![0, 0] S2048x2048.size inb_S2048x2048_S2048x2048_0_0, k1_pay1 (View.ld (a8.view.read (Elt F) f7) (Rect.unit ![0, 0] S2048x2048.size inb_S2048x2048_S2048x2048_0_0))⟩] (Rect.unit ![0, 0] S2048x2048.size inb_S2048x2048_S2048x2048_0_0).toLoadRect) from rfl) ?_
      rw [blockOut_read, View.readCov_unit_lit _ _ _ (by decide), View.ld_unit_lit _ _ (by decide), carried, if_pos hc]
    isplitl [HS0]
    · iexists _, _; isplitr; swap; · iexact HS0
      ipureintro; rfl
    iexists _; isplitr; swap; · iexact HS1
    ipureintro
    refine (read_whole a12.view fs1 inb_S2048x2048_S2048x2048_0_0 (by decide) _).trans ?_
    rw [carried, if_pos hc]
    exact congrArg k1_pay1 (View.ld_unit_lit inb_S2048x2048_S2048x2048_0_0 (a8.view.read (Elt F) f7) (by decide))
  · sl_exec (disch := first | sl_exact hc)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      refine (read_whole a10.view f9 inb_S256x2048_S256x2048_0_0 (by decide) _).trans ?_
      refine Eq.trans (show _ = k1_pay188 (a11.view.readCov (headPieces i (a1.view.read (Elt F) f0) (a2.view.read (Elt F) f1) (a3.view.read (Elt F) f2) (a4.view.read (Elt F) f3) (a5.view.read (Elt F) f4) (a6.view.read (Elt F) f5) (a7.view.read (Elt F) f6)
        (a9.view.read (Elt F) f8)) (Rect.unit ![0, 0] S256x2048.size inb_S256x2048_S256x2048_0_0).toLoadRect) (View.ld (a12.view.read (Elt F) fs1) (Rect.unit ![0, 0] S2048x2048.size inb_S2048x2048_S2048x2048_0_0)) from rfl) ?_
      rw [blockOut_read, View.ld_unit_lit _ _ (by decide), carried, if_neg hc]
    isplitl [HS0]
    · iexists _, _; isplitr; swap; · iexact HS0
      ipureintro; rfl
    iexists _; isplitr; swap; · iexact HS1
    ipureintro
    rw [carried, if_neg hc]

end Cert.KernelIdeal.Attn

end
-- ==== Proof.Launches.lean ====
/- The two kernel launches as pipelines: what each window's buffer holds at every grid point, and the bodies' obligations.
   Both are stated at arbitrary contents `V` of the machine's buffers when the launch is entered. -/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The projection -/

/-- The block window `w` of the projection reads or writes at point `t`, cut out of its array as it was on entry. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
/-- The projection's body at one point: from the activations `x0` and a block of weight columns `x1` it leaves the
    product, scaled and rounded, in the output block. -/
theorem proj_triple (c : Dev nD) (E : Set ℕ) (i : grid0.Coords)
    (a1 : Memref sig .tc .vmem S2048x2048 .f32) (h1 : a1.IsWhole)
    (a2 : Memref sig .tc .vmem S2048x768 .f32) (h2 : a2.IsWhole)
    (a3 : Memref sig .tc .vmem S2048x768 .bf16) (h3 : a3.IsWhole)
    (x0 : Vec F S2048x2048 .f32) (x1 : Vec F S2048x768 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (k0_pay1 i x0 x1)) -∗ K ⟨⟩))
      ⊢ wp frame (wpE (defs₀ (F := F)) Variants.none c none) E (cc0__qkv_matmul_kernel i a1 h1 a2 h2 a3 h3) K := by
  simp only [cc0__qkv_matmul_kernel_eq_skeleton]; unfold cc0__qkv_matmul_kernel_skel
  unfold owns
  iintro ⟨⟨%f0, %e0, H0⟩, ⟨%f1, %e1, H1⟩, ⟨%d2, %f2, -, H2⟩, Hk⟩
  subst e0 e1
  sl_exec
  sl_step
  iapply Hk
  isplitl [H0]
  · iexists _; isplitr; swap; · iexact H0
    ipureintro; rfl
  isplitl [H1]
  · iexists _; isplitr; swap; · iexact H1
    ipureintro; rfl
  iexists _; isplitr
  swap; · iexact H2
  ipureintro
  refine (read_whole _ _ inb_S2048x768_S2048x768_0_0 (by decide) _).trans ?_
  exact congrArg₂ (k0_pay1 i)
    (View.ld_unit_lit inb_S2048x2048_S2048x2048_0_0 _ (by decide))
    (View.ld_unit_lit inb_S2048x768_S2048x768_0_0 _ (by decide))

/-- The projection's proof data: arrays as on entry; each operand's buffer holds its block, the output's the product's
    block; nothing is carried between points. -/
def dat0 (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => k0_pay1 (grid0.coords t) (projBlk V c 0 t) (projBlk V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

/-- What the output block holds after the body at a point. -/
theorem dat0_out (c : Dev nD) (t : Fin cfg0.N) :
    (dat0 V c).after 2 t = k0_pay1 (grid0.coords t) (projBlk V c 0 t) (projBlk V c 1 t) := by dsimp only [dat0]

/-- An operand window whose body leaves its block in place holds its block at every point. -/
theorem dat0_before (c : Dev nD) (w : Fin cfg0.W) (hin : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat0 V c).after w t) = projBlk V c w t)
    (t : Fin cfg0.N) (d) : (dat0 V c).before w t d = (dat0 V c).fetched w t d :=
  (dat0 V c).before_in_eq_fetched w hin hlive hclip
    (fun t => by rw [hkeep]; unfold Dat.blockOf projBlk; rw [dat0_A]) t d

theorem dat0_before0 (c : Dev nD) (t : Fin cfg0.N) (d) : (dat0 V c).before 0 t d = projBlk V c 0 t :=
  (dat0_before V c 0 rfl (fun _ => rfl) (fun _ _ _ => rfl) (fun t => by dsimp only [dat0]) t d).trans
    (by unfold Dat.fetched Dat.blockOf projBlk; rw [dat0_A]; rfl)
theorem dat0_before1 (c : Dev nD) (t : Fin cfg0.N) (d) : (dat0 V c).before 1 t d = projBlk V c 1 t :=
  (dat0_before V c 1 rfl (fun _ => rfl) (fun _ _ _ => rfl) (fun t => by dsimp only [dat0]) t d).trans
    (by unfold Dat.fetched Dat.blockOf projBlk; rw [dat0_A]; rfl)

/-- The body at any point, between the states the pipeline calls it in and takes back. -/
theorem proj_at (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl,
    show (dat0 V c).after 0 t = projBlk V c 0 t from by dsimp only [dat0],
    show (dat0 V c).after 1 t = projBlk V c 1 t from by dsimp only [dat0], dat0_out]
  iintro ⟨HΦ, Ho, ⟨%d0, H0⟩, ⟨%d1, H1⟩, ⟨%d2, H2⟩⟩
  iapply (proj_triple c Set.univ (grid0.coords t) _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the projection's body. -/
theorem obligation0 (c : Dev nD) : BodyObligation (dat0 (F := F) V c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (proj_at V c t) rfl .rfl fun _ => .rfl

/-! ## The attention -/

/-- The block window `w` of the attention reads or writes at point `t`, cut out of its array as it was on entry. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's first point. -/
abbrev t0 : Fin cfg1.N := ⟨0, by decide⟩

/-- The output weights, rounded: what the carried scratch holds after the first point. -/
def outW (c : Dev nD) : Vec F S2048x2048 .bf16 := k1_pay1 (attnBlk V c 7 t0)

/-- The output-weight block is the same at every point: the whole array. -/
theorem attnBlk7 (c : Dev nD) (t : Fin cfg1.N) : attnBlk V c 7 t = attnBlk V c 7 t0 := rfl

/-- The body's branch is taken at the first point and nowhere else. -/
theorem first_iff : ∀ t : Fin cfg1.N, first (grid1.coords t) ↔ t.val = 0 := by decide +kernel

/-- If the scratch held the rounded output weights from the second point on, it holds them after every point. -/
theorem carried_eq (c : Dev nD) (t : Fin cfg1.N) (w : Vec F S2048x2048 .bf16) (h : 0 < t.val → w = outW V c) :
    carried (grid1.coords t) (attnBlk V c 7 t) w = outW V c := by
  unfold carried
  split
  · rw [attnBlk7]; rfl
  · next hn => exact h (Nat.pos_of_ne_zero fun h0 => hn ((first_iff t).mpr h0))

/-- The attention's first scratch: where the heads' outputs are gathered. -/
abbrev scrHeads : Memref sig .tc .vmem S256x2048 .bf16 := Memref.whole cc1_scratch0
/-- The attention's second scratch: the rounded output weights, carried from point to point. -/
abbrev scrW : Memref sig .tc .vmem S2048x2048 .bf16 := Memref.whole cc1_scratch1

/-- What lies beside the attention's windows: the projection's staging buffers and the register, untouched. -/
def beside (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ ∃ r, prngReg c r)

/-- What holds between the points: the first scratch at anything, the second at the rounded output weights once the
    first point has run. -/
def inv (c : Dev nD) (n : ℕ) : sProp 𝕄 :=
  iprop(beside c ∗ (∃ d, owns (c : Thread nD τ) scrHeads fullShare d)
    ∗ ∃ d : Vec F S2048x2048 .bf16, ⌜0 < n → d = outW V c⌝ ∗ owns (c : Thread nD τ) scrW fullShare d)

/-- Before the first point the invariant is the scoped buffers and the register at anything. -/
theorem inv_enter (c : Dev nD) : (Pipeline.ΦA spec1 c : sProp 𝕄) ⊢ inv V c 0 := by
  unfold Pipeline.ΦA inv beside; rw [scopedRest1_eq]; simp only [scrHeads, scrW, owns_whole]
  iintro ⟨⟨HR0, HR1, HR2, HR3, HR4, HS0, ⟨%f, HS1⟩⟩, Hg⟩
  isplitl [HR0 HR1 HR2 HR3 HR4 Hg]
  · isplitl [HR0]; · iexact HR0
    isplitl [HR1]; · iexact HR1
    isplitl [HR2]; · iexact HR2
    isplitl [HR3]; · iexact HR3
    isplitl [HR4]; · iexact HR4
    iexact Hg
  isplitl [HS0]; · iexact HS0
  iexists f; isplitr
  · ipureintro; intro h; exact absurd h (lt_irrefl 0)
  iexact HS1

/-- After any point it gives those buffers back. -/
theorem inv_leave (c : Dev nD) (n : ℕ) : inv V c n ⊢ (Pipeline.ΦA spec1 c : sProp 𝕄) := by
  unfold Pipeline.ΦA inv beside; rw [scopedRest1_eq]; simp only [scrHeads, scrW, owns_whole]
  iintro ⟨⟨HR0, HR1, HR2, HR3, HR4, Hg⟩, HS0, ⟨%f, -, HS1⟩⟩
  isplitr [Hg]
  · isplitl [HR0]; · iexact HR0
    isplitl [HR1]; · iexact HR1
    isplitl [HR2]; · iexact HR2
    isplitl [HR3]; · iexact HR3
    isplitl [HR4]; · iexact HR4
    isplitl [HS0]; · iexact HS0
    iexists f; iexact HS1
  iexact Hg

/-- The output block at point `t`. -/
def outBlk (c : Dev nD) (t : Fin cfg1.N) : Vec F S256x2048 .f32 :=
  blockOut (grid1.coords t) (attnBlk V c 0 t) (attnBlk V c 1 t) (attnBlk V c 2 t) (attnBlk V c 3 t) (attnBlk V c 4 t)
    (attnBlk V c 5 t) (attnBlk V c 6 t) (attnBlk V c 8 t) (outW V c)

/-- The attention's proof data: arrays as on entry; each operand's buffer holds its block, the output's `outBlk`; the
    invariant `inv` between the points; the windows on one array share it. -/
def dat1 (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => attnBlk V c 4 t
    | ⟨5, _⟩ => attnBlk V c 5 t
    | ⟨6, _⟩ => attnBlk V c 6 t
    | ⟨7, _⟩ => attnBlk V c 7 t
    | ⟨8, _⟩ => attnBlk V c 8 t
    | ⟨9, _⟩ => outBlk V c t
  Φ n := inv V c n.val
  q w := Pipeline.shareOf spec1 w
  owed _ := 0

theorem dat1_A (c : Dev nD) (w : Fin cfg1.W) : (dat1 V c).A w = V c (Pipeline.arrRef spec1 w) := by
  dsimp only [dat1]

/-- What the output block holds after the body at a point. -/
theorem dat1_out (c : Dev nD) (t : Fin cfg1.N) : (dat1 V c).after 9 t = outBlk V c t := by dsimp only [dat1]

/-- An operand window whose body leaves its block in place holds, at every point, what a fetch there brings. -/
theorem dat1_before (c : Dev nD) (w : Fin cfg1.W) (hin : (cfg1.win w).isOut = false)
    (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = attnBlk V c w t)
    (t : Fin cfg1.N) (d) : (dat1 V c).before w t d = (dat1 V c).fetched w t d :=
  (dat1 V c).before_in_eq_fetched w hin hlive hclip
    (fun t => by rw [hkeep]; unfold Dat.blockOf attnBlk; rw [dat1_A]) t d

theorem dat1_before0 (c : Dev nD) (t : Fin cfg1.N) (d) : (dat1 V c).before 0 t d = attnBlk V c 0 t :=
  (dat1_before V c 0 rfl (fun _ => rfl) (fun _ _ _ => rfl) (fun t => by dsimp only [dat1]) t d).trans
    (by unfold Dat.fetched Dat.blockOf attnBlk; rw [dat1_A]; rfl)
theorem dat1_before1 (c : Dev nD) (t : Fin cfg1.N) (d) : (dat1 V c).before 1 t d = attnBlk V c 1 t :=
  (dat1_before V c 1 rfl (fun _ => rfl) (fun _ _ _ => rfl) (fun t => by dsimp only [dat1]) t d).trans
    (by unfold Dat.fetched Dat.blockOf attnBlk; rw [dat1_A]; rfl)
theorem dat1_before2 (c : Dev nD) (t : Fin cfg1.N) (d) : (dat1 V c).before 2 t d = attnBlk V c 2 t :=
  (dat1_before V c 2 rfl (fun _ => rfl) (fun _ _ _ => rfl) (fun t => by dsimp only [dat1]) t d).trans
    (by unfold Dat.fetched Dat.blockOf attnBlk; rw [dat1_A]; rfl)
theorem dat1_before3 (c : Dev nD) (t : Fin cfg1.N) (d) : (dat1 V c).before 3 t d = attnBlk V c 3 t :=
  (dat1_before V c 3 rfl (fun _ => rfl) (fun _ _ _ => rfl) (fun t => by dsimp only [dat1]) t d).trans
    (by unfold Dat.fetched Dat.blockOf attnBlk; rw [dat1_A]; rfl)
theorem dat1_before4 (c : Dev nD) (t : Fin cfg1.N) (d) : (dat1 V c).before 4 t d = attnBlk V c 4 t :=
  (dat1_before V c 4 rfl (fun _ => rfl) (fun _ _ _ => rfl) (fun t => by dsimp only [dat1]) t d).trans
    (by unfold Dat.fetched Dat.blockOf attnBlk; rw [dat1_A]; rfl)
theorem dat1_before5 (c : Dev nD) (t : Fin cfg1.N) (d) : (dat1 V c).before 5 t d = attnBlk V c 5 t :=
  (dat1_before V c 5 rfl (fun _ => rfl) (fun _ _ _ => rfl) (fun t => by dsimp only [dat1]) t d).trans
    (by unfold Dat.fetched Dat.blockOf attnBlk; rw [dat1_A]; rfl)
theorem dat1_before6 (c : Dev nD) (t : Fin cfg1.N) (d) : (dat1 V c).before 6 t d = attnBlk V c 6 t :=
  (dat1_before V c 6 rfl (fun _ => rfl) (fun _ _ _ => rfl) (fun t => by dsimp only [dat1]) t d).trans
    (by unfold Dat.fetched Dat.blockOf attnBlk; rw [dat1_A]; rfl)
theorem dat1_before7 (c : Dev nD) (t : Fin cfg1.N) (d) : (dat1 V c).before 7 t d = attnBlk V c 7 t :=
  (dat1_before V c 7 rfl (fun _ => rfl) (fun _ _ _ => rfl) (fun t => by dsimp only [dat1]) t d).trans
    (by unfold Dat.fetched Dat.blockOf attnBlk; rw [dat1_A]; rfl)
theorem dat1_before8 (c : Dev nD) (t : Fin cfg1.N) (d) : (dat1 V c).before 8 t d = attnBlk V c 8 t :=
  (dat1_before V c 8 rfl (fun _ => rfl) (fun _ _ _ => rfl) (fun t => by dsimp only [dat1]) t d).trans
    (by unfold Dat.fetched Dat.blockOf attnBlk; rw [dat1_A]; rfl)

/-- The state the pipeline calls the body in at point `t`, window by window. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- The state it takes back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1200000 in
/-- The body at any point, between those states. -/
theorem attn_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7,
    dat1_before8]
  rw [show (dat1 V c).owesAt () t.succ = (dat1 V c).owesAt () t.castSucc from rfl,
    show (dat1 V c).after 0 t = attnBlk V c 0 t from by dsimp only [dat1],
    show (dat1 V c).after 1 t = attnBlk V c 1 t from by dsimp only [dat1],
    show (dat1 V c).after 2 t = attnBlk V c 2 t from by dsimp only [dat1],
    show (dat1 V c).after 3 t = attnBlk V c 3 t from by dsimp only [dat1],
    show (dat1 V c).after 4 t = attnBlk V c 4 t from by dsimp only [dat1],
    show (dat1 V c).after 5 t = attnBlk V c 5 t from by dsimp only [dat1],
    show (dat1 V c).after 6 t = attnBlk V c 6 t from by dsimp only [dat1],
    show (dat1 V c).after 7 t = attnBlk V c 7 t from by dsimp only [dat1],
    show (dat1 V c).after 8 t = attnBlk V c 8 t from by dsimp only [dat1],
    dat1_out]
  rw [show (dat1 V c).Φ t.castSucc = inv V c t.val from rfl, show (dat1 V c).Φ t.succ = inv V c (t.val + 1) from rfl]
  unfold inv
  iintro ⟨⟨HB, HS0, ⟨%w, %hw, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid1.coords t) _ _ _ _ _ _ _ _ _ _ _ _ _ _ _ _ _ _ _ _ _ _ _ _
    (attnBlk V c 0 t) (attnBlk V c 1 t) (attnBlk V c 2 t) (attnBlk V c 3 t) (attnBlk V c 4 t) (attnBlk V c 5 t)
    (attnBlk V c 6 t) (attnBlk V c 7 t) (attnBlk V c 8 t) w _)
  rw [carried_eq V c t w hw]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HB HS0 HS1]
  · isplitl [HB]; · iexact HB
    isplitl [HS0]; · iexact HS0
    iexists _; isplitr
    swap; · iexact HS1
    ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold outBlk; iexact H9

/-- The pipeline's obligation on the attention's body. -/
theorem obligation1 (c : Dev nD) : BodyObligation (dat1 (F := F) V c) (defs₀ (F := F)) Variants.none () Set.univ := fun t => by
  have hrow : defs₀ (F := F) .tc cfg1.body (cfg1.bodyArgs t (cfg1.slots t)) = bodyAt1 t := by
    unfold defs₀; rw [Defs.onTc_tc]
  rw [bigSep_W1, bigSep_W1, hrow]
  exact triple_restated (attn_at V c t) rfl .rfl fun _ => .rfl

end Cert.KernelIdeal.Attn

end
-- ==== Proof.Run.lean ====
/- The whole program's run: the buffers' contents between its parts as a fold from the launch, the two launches entered and
   left at those contents, and the run from the first operation to the return. -/
module

public import proofs.«01_k».proof.Proof.Launches
public import proofs.«01_k».proof.Proof.Gen.KernelIdeal.Regions

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents between the parts -/

/-- The buffers at launch. -/
abbrev at0 (c : Dev nD) : Valuation τ sig (Elt F) := fun b => m (c, b)
/-- After the activations are reshaped: the projection's entry. -/
abbrev at1 (c : Dev nD) : Valuation τ sig (Elt F) := StableHlo.after hostOps0 (at0 m c)
/-- The same, by the core's own references. -/
abbrev in0 : (c : Dev nD) → (b : Ref sig .tc) → Buf (Elt F) ((c : Thread nD τ).loc b) := fun c b => at1 m c b
/-- After the projection. -/
def at2 (c : Dev nD) : Valuation τ sig (Elt F) :=
  Pipeline.withArrays spec0 c (at1 m c) fun w => (dat0 (in0 m) c).arrAt w cfg0.N
/-- After the window mask is computed. -/
abbrev at3 (c : Dev nD) : Valuation τ sig (Elt F) := StableHlo.after hostOps1 (at2 m c)
/-- After the mask is turned into a bias. -/
abbrev at4 (c : Dev nD) : Valuation τ sig (Elt F) := StableHlo.after hostOps1_1 (at3 m c)
/-- The attention's entry. -/
abbrev at5 (c : Dev nD) : Valuation τ sig (Elt F) := StableHlo.after hostOps1_2 (at4 m c)
/-- The same, by the core's own references. -/
abbrev in1 : (c : Dev nD) → (b : Ref sig .tc) → Buf (Elt F) ((c : Thread nD τ).loc b) := fun c b => at5 m c b
/-- After the attention. -/
def at6 (c : Dev nD) : Valuation τ sig (Elt F) :=
  Pipeline.withArrays spec1 c (at5 m c) fun w => (dat1 (in1 m) c).arrAt w cfg1.N
/-- At the return, the result reshaped. -/
abbrev at7 (c : Dev nD) : Valuation τ sig (Elt F) := StableHlo.after hostOps2 (at6 m c)

theorem at2_arr (c : Dev nD) (w : Fin cfg0.W) :
    at2 m c (Proc.devRef .tc (Pipeline.arrRef spec0 w)) = (dat0 (in0 m) c).arrAt w cfg0.N := by
  unfold at2; exact Pipeline.withArrays_arr spec0 launch0.win.arr_inj c _ _ w
theorem at2_else (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- The projection changes only its output array. -/
theorem at2_keep (c : Dev nD) (r : Ref sig .tc) (h : ∀ w : Fin cfg0.W, Pipeline.arrRef spec0 w = r → (cfg0.win w).isOut = false) :
    at2 m c (Proc.devRef .tc r) = at1 m c (Proc.devRef .tc r) := by
  by_cases hw : ∃ w : Fin cfg0.W, Pipeline.arrRef spec0 w = r
  · obtain ⟨w, rfl⟩ := hw
    exact (at2_arr m c w).trans (((dat0 (in0 m) c).arrAt_in w (h w rfl) _).trans (dat0_A (in0 m) c w))
  · exact at2_else m c r fun w e => hw ⟨w, e⟩
theorem at6_arr (c : Dev nD) (w : Fin cfg1.W) :
    at6 m c (Proc.devRef .tc (Pipeline.arrRef spec1 w)) = (dat1 (in1 m) c).arrAt w cfg1.N := by
  unfold at6; exact (dat1 (in1 m) c).withArrays_arrAt launch₀1.sharedIn _ (dat1_A (in1 m) c) w
theorem at6_else (c : Dev nD) (b : Ref sig .tc) (hb : ∀ w, Pipeline.arrRef spec1 w ≠ b) :
    at6 m c (Proc.devRef .tc b) = at5 m c (Proc.devRef .tc b) := by
  unfold at6; exact Pipeline.withArrays_of_ne spec1 c _ _ b hb
/-- The attention changes only its output array. -/
theorem at6_keep (c : Dev nD) (r : Ref sig .tc) (h : ∀ w : Fin cfg1.W, Pipeline.arrRef spec1 w = r → (cfg1.win w).isOut = false) :
    at6 m c (Proc.devRef .tc r) = at5 m c (Proc.devRef .tc r) := by
  by_cases hw : ∃ w : Fin cfg1.W, Pipeline.arrRef spec1 w = r
  · obtain ⟨w, rfl⟩ := hw
    exact (at6_arr m c w).trans (((dat1 (in1 m) c).arrAt_in w (h w rfl) _).trans (dat1_A (in1 m) c w))
  · exact at6_else m c r fun w e => hw ⟨w, e⟩

/-- A buffer no host operation before the attention writes, and the projection does not, is at the attention's entry
    as launched. -/
theorem at5_keep (c : Dev nD) (r : Ref sig .tc) (h0 : r ∉ hostOps0_W) (h1 : r ∉ hostOps1_W) (h2 : r ∉ hostOps1_1_W)
    (h3 : r ∉ hostOps1_2_W) (hp : ∀ w : Fin cfg0.W, Pipeline.arrRef spec0 w = r → (cfg0.win w).isOut = false) :
    at5 m c (Proc.devRef .tc r) = m ((c : Thread nD τ).loc r) :=
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (at2_keep m c r hp).trans <|
  (StableHlo.after_of_writes_sub hostOps0 _ hostOps0_writes h0)

/-- The program's three arguments. -/
abbrev args : List (Ref sig .tc) := [main_arg0, main_arg1, main_arg2]

/-- No part of the program changes an argument. -/
theorem at7_args (c : Dev nD) : ∀ a ∈ args, at7 m c (Proc.devRef .tc a) = m ((c : Thread nD τ).loc a) := by
  have hW : ∀ a ∈ args, a ∉ hostOps0_W ∧ a ∉ hostOps1_W ∧ a ∉ hostOps1_1_W ∧ a ∉ hostOps1_2_W ∧ a ∉ hostOps2_W := by
    decide +kernel
  have h0 : ∀ a ∈ args, ∀ w : Fin cfg0.W, Pipeline.arrRef spec0 w = a → (cfg0.win w).isOut = false := by decide +kernel
  have h1 : ∀ a ∈ args, ∀ w : Fin cfg1.W, Pipeline.arrRef spec1 w = a → (cfg1.win w).isOut = false := by decide +kernel
  intro a ha
  obtain ⟨w0, w1, w2, w3, w4⟩ := hW a ha
  exact (StableHlo.after_of_writes_sub hostOps2 _ hostOps2_writes w4).trans <|
    (at6_keep m c a (h1 a ha)).trans (at5_keep m c a w0 w1 w2 w3 (h0 a ha))

/-! ## The launches between those contents -/

/-- Each launch's proof data, at the contents it is entered with. -/
def dats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c

/-- No core owes another anything, so no level is assigned. -/
abbrev lvls : GSem nD τ sig → Finset Unit := fun _ => ∅
abbrev lvl : GSem nD τ sig → Unit → ℕ := fun _ _ => 0
/-- What rides along beside the buffers: the register at some state and the core owing nothing. -/
abbrev along (c : Dev nD) : sProp 𝕄 := iprop((∃ r, prngReg c r) ∗ ∃ W, owes (c : Thread nD τ) (0 : CellTallies nD τ sig Unit) W)

/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none lvls lvl :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W along

-- the library's lemmas are stated over the pinned configuration, which unification must unfold
set_option backward.isDefEq.respectTransparency.types false in
/-- The projection, entered at `at1` and left at `at2`. -/
def launchA : RegionSeg (pcfgs (F := F)) adm (dats m) () defs₀ Variants.none lvls lvl 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ lvls lvl 0 fun _ _ => rfl
  pre c := iprop(StableHlo.held (c : Thread nD τ) (Pipeline.ucRefs τ sig) (at1 m c) ∗ along c)
  post c := iprop(StableHlo.held (c : Thread nD τ) (Pipeline.ucRefs τ sig) (at2 m c) ∗ along c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (dats m) launch0.win launch0.arr_whole c
      ((dats m 0 c).share_full fun _ => rfl) (in0 m c) (dat0_A (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full fun _ => rfl)
      (in0 m c) (fun b => at2 m c b) ((dats m 0 c).arrAt · cfg0.N) (fun w => (at2_arr m c w).symm)
      (fun b hb => at2_else m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification must unfold
set_option backward.isDefEq.respectTransparency.types false in
/-- The attention, entered at `at5` and left at `at6`. -/
def launchB : RegionSeg (pcfgs (F := F)) adm (dats m) () defs₀ Variants.none lvls lvl 1 where
  win := launch₀1.win
  block_pos := launch₀1.block_pos
  stage_whole := launch₀1.stage_whole
  K := PEmpty
  osem k := k.elim
  ho := Pipeline.OwnSemFacts.none _
  hbody c := (obligation1 (in1 m) c).loose
  hwaits := Pipeline.hwaits_of_owed_zero _ _ _ _ lvls lvl 1 fun _ _ => rfl
  pre c := iprop(StableHlo.held (c : Thread nD τ) (Pipeline.ucRefs τ sig) (at5 m c) ∗ along c)
  post c := iprop(StableHlo.held (c : Thread nD τ) (Pipeline.ucRefs τ sig) (at6 m c) ∗ along c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs_shared (p := 1) (pcfgs (F := F)) adm (dats m) launch₀1.win launch₀1.sharedIn launch₀1.arr_whole c
      (fun _ _ => rfl) (in1 m c) (dat1_A (in1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have henter := inv_enter (in1 m) c
    unfold Pipeline.ΦA at henter
    rw [show (dats m 1 c).Φ 0 = inv (in1 m) c 0 from rfl]
    iintro ⟨Hp, -, Hr⟩
    iapply henter
    isplitl [Hr]; · iexact Hr
    iexact Hp
  hout c := by
    have hleave := inv_leave (in1 m) c cfg1.N
    unfold Pipeline.ΦA at hleave
    rw [Pipeline.ownSems0_none, show (dats m 1 c).Φ (Fin.last _) = inv (in1 m) c cfg1.N from rfl]
    iintro H
    ihave H' := hleave $$ H
    icases H' with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (dats m) (fun _ _ => rfl)
      (in1 m c) (fun b => at6 m c b) ((dats m 1 c).arrAt · cfg1.N) (fun w => (at6_arr m c w).symm)
      (fun b hb => at6_else m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's parts in order. -/
abbrev parts : List (Seg (pcfgs (F := F)) adm (dats m) () defs₀ Variants.none lvls lvl) :=
  [ .host (stretch hostOps0 hostOps0_sub hostOps0_fresh (at0 m)),
    .region (launchA m),
    .host (stretch hostOps1 hostOps1_sub hostOps1_fresh (at2 m)),
    .host (stretch hostOps1_1 hostOps1_1_sub hostOps1_1_fresh (at3 m)),
    .host (stretch hostOps1_2 hostOps1_2_sub hostOps1_2_fresh (at4 m)),
    .region (launchB m),
    .host (stretch hostOps2 hostOps2_sub hostOps2_fresh (at6 m)) ]

/-- The program is the run of its parts. -/
theorem main_parts (c : Dev nD) : main (F := F) c = Seg.run (parts m) := (main_chain c).trans (by chain_rfl)

-- the library's theorem's implicit arguments are found by unifying its conclusion with this one
set_option backward.isDefEq.respectTransparency.types false in
/-- THE RUN. From any memory with zero counters every weakly fair execution terminates without a fault; at the end every
    buffer that outlives the launches holds what `at7` says and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = at7 m c b) ∧ r.2.sem = fun _ => 0) :=
  Pipeline.θ_run_regions_kit_sems (pcfgs (F := F)) adm (dats m) () cellOf_inj emb₁ defs₀ Variants.none lvls lvl m ρ main (parts m)
    (fun c Q => by rw [main_parts m c])
    (by simp only [parts, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ along c))
    (Tₙ := fun c => iprop(StableHlo.held (c : Thread nD τ) (Pipeline.ucRefs τ sig) (at7 m c) ∗ ∃ r, prngReg c r))
    (hch := ⟨fun _ => .rfl, fun _ => .rfl, fun _ => .rfl, fun _ => .rfl, fun _ => .rfl, fun _ => .rfl, fun _ => .rfl, fun c => by
      dsimp only [Seg.post, stretch, HostSeg.ofOps]
      iintro ⟨Hh, Hp, HO⟩
      isplitl [Hh Hp]
      · isplitl [Hh]; · iexact Hh
        iexact Hp
      iexact HO⟩)
    (hinit := by
      refine Pipeline.initEach lvls lvl fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h hz => ⟨h, funext fun g => hz g (.inr (regions_no_unscoped g.2))⟩)

/-- A buffer that outlives the launches is among those the run's end speaks of. -/
theorem mem_kept (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result named: it ends with the result at `at7`, the three arguments as launched and every counter
    at zero. -/
theorem run_named : θ_run defs (onTc (τ := τ) (main (F := F))) ⟨m, fun _ => 0, ρ⟩ (fun r => (∀ c : Dev nD,
      r.2.mem ((c.tc : Thread nD τ).loc main_v36) = at7 m c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨h.1 c _ (mem_kept main_v36 (by decide)),
     (h.1 c _ (mem_kept main_arg0 (by decide))).trans (at7_args m c main_arg0 (by decide)),
     (h.1 c _ (mem_kept main_arg1 (by decide))).trans (at7_args m c main_arg1 (by decide)),
     (h.1 c _ (mem_kept main_arg2 (by decide))).trans (at7_args m c main_arg2 (by decide))⟩, h.2⟩) (run m ρ)

/-- The frame: it ends with the three arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_named m ρ)

end Cert.KernelIdeal.Attn

end
-- ==== Proof.Spec.lean ====
/- The attention both programs compute, over the reals, and the facts about it that hold of real numbers alone:
   a softmax does not see the shift it is taken with, and a sum over the keys near a query is a sum over the three
   blocks of 256 keys around the query's own block. -/
module

public import Idealize.ShloMosaic.PureOps
public import Idealize.ShloMosaic.PureOps.Ideal.Laws

@[expose] public section

noncomputable section

namespace Cert.Spec

open Idealize.ShloMosaic

/-- Key position `t` is in the window of query position `s`: on the 32 columns wide board the key's row lies from
    three rows above to two rows below, and its column from three to the left to two to the right. -/
def near (s t : Nat) : Prop :=
  t / 32 ≤ s / 32 + 2 ∧ s / 32 ≤ t / 32 + 3 ∧ t % 32 ≤ s % 32 + 2 ∧ s % 32 ≤ t % 32 + 3

instance (s t : Nat) : Decidable (near s t) := by unfold near; infer_instance

/-- A position is in its own window. -/
theorem near_self (s : Nat) : near s s := by unfold near; omega

/-- Column `d` of head `h` in part `p` (queries, keys, values) of the 6144 projected columns. -/
def col (p : Fin 3) (h : Fin 16) (d : Fin 128) : Fin 6144 :=
  ⟨2048 * p.val + 128 * h.val + d.val, by have := p.isLt; have := h.isLt; have := d.isLt; omega⟩

/-- The projection of every position to its queries, keys and values. -/
def proj (X : Fin 2048 → Fin 2048 → ℝ) (W : Fin 2048 → Fin 6144 → ℝ) (s : Fin 2048) (c : Fin 6144) : ℝ :=
  ∑ k, X s k * W k c

/-- The scaled score of query `s` against key `t` in head `h`. -/
def logit (P : Fin 2048 → Fin 6144 → ℝ) (h : Fin 16) (s t : Fin 2048) : ℝ :=
  (∑ d, P s (col 0 h d) * P t (col 1 h d)) / √128

/-- The weight of key `t` for query `s` in head `h`, before it is normalised, taken with shift `ν`. -/
def wt (P : Fin 2048 → Fin 6144 → ℝ) (h : Fin 16) (s : Fin 2048) (ν : ℝ) (t : Fin 2048) : ℝ :=
  if near s.val t.val then Real.exp (logit P h s t - ν) else 0

/-- The attention's output for query `s` in head `h`, value column `d`. -/
def attn (P : Fin 2048 → Fin 6144 → ℝ) (h : Fin 16) (s : Fin 2048) (d : Fin 128) : ℝ :=
  (∑ t, wt P h s 0 t * P t (col 2 h d)) / ∑ t, wt P h s 0 t

/-- The layer's output: the heads' outputs side by side, projected. -/
def out (X : Fin 2048 → Fin 2048 → ℝ) (W : Fin 2048 → Fin 6144 → ℝ) (O : Fin 2048 → Fin 2048 → ℝ)
    (s d : Fin 2048) : ℝ :=
  ∑ c : Fin 2048, attn (proj X W) ⟨c.val / 128, by have := c.isLt; omega⟩ s ⟨c.val % 128, by omega⟩ * O c d

section Shift

variable (P : Fin 2048 → Fin 6144 → ℝ) (h : Fin 16) (s : Fin 2048)

/-- A shift multiplies every weight by one factor. -/
theorem wt_shift (ν : ℝ) (t : Fin 2048) : wt P h s ν t = Real.exp (-ν) * wt P h s 0 t := by
  unfold wt
  split
  · rw [← Real.exp_add]; congr 1; ring
  · rw [mul_zero]

/-- No weight is negative. -/
theorem wt_nonneg (ν : ℝ) (t : Fin 2048) : 0 ≤ wt P h s ν t := by
  unfold wt
  split
  · exact (Real.exp_pos _).le
  · exact le_rfl

/-- The weights of a query do not sum to zero: its own position has one. -/
theorem wt_sum_pos (ν : ℝ) : 0 < ∑ t, wt P h s ν t := by
  refine Finset.sum_pos' (fun t _ => wt_nonneg P h s ν t) ⟨s, Finset.mem_univ _, ?_⟩
  unfold wt
  rw [if_pos (near_self _)]
  exact Real.exp_pos _

/-- The attention's output is the same whatever shift the weights are taken with. -/
theorem attn_shift (ν : ℝ) (d : Fin 128) :
    (∑ t, wt P h s ν t * P t (col 2 h d)) / ∑ t, wt P h s ν t = attn P h s d := by
  unfold attn
  have e1 : ∑ t, wt P h s ν t * P t (col 2 h d) = Real.exp (-ν) * ∑ t, wt P h s 0 t * P t (col 2 h d) := by
    rw [Finset.mul_sum]; exact Finset.sum_congr rfl fun t _ => by rw [wt_shift]; ring
  have e2 : ∑ t, wt P h s ν t = Real.exp (-ν) * ∑ t, wt P h s 0 t := by
    rw [Finset.mul_sum]; exact Finset.sum_congr rfl fun t _ => wt_shift P h s ν t
  rw [e1, e2, mul_div_mul_left _ _ (Real.exp_pos _).ne']

end Shift

/-! ## The three blocks around a query's block -/

/-- Key block `t - 1 + j` exists. -/
def ok (t : Fin 8) (j : Fin 3) : Prop := 1 ≤ t.val + j.val ∧ t.val + j.val ≤ 8

instance (t : Fin 8) (j : Fin 3) : Decidable (ok t j) := by unfold ok; infer_instance

/-- The key at place `k` of the `j`-th of the three blocks around block `t`: the block number is held to the eight. -/
def key (t : Fin 8) (j : Fin 3) (k : Fin 256) : Fin 2048 :=
  ⟨256 * min (t.val + j.val - 1) 7 + k.val, by have := k.isLt; omega⟩

/-- Query `r` of block `t`. -/
def qry (t : Fin 8) (r : Fin 256) : Fin 2048 := ⟨256 * t.val + r.val, by have := t.isLt; have := r.isLt; omega⟩

/-- The window as the bias row of a block states it: `w` is the key's place in the 768 keys of the three blocks. -/
def nearW (r w : Nat) : Prop :=
  w / 32 ≤ r / 32 + 10 ∧ r / 32 + 8 ≤ w / 32 + 3 ∧ w % 32 ≤ r % 32 + 2 ∧ r % 32 ≤ w % 32 + 3

instance (r w : Nat) : Decidable (nearW r w) := by unfold nearW; infer_instance

/-- Where the key block exists, the bias row's window is the window. -/
theorem nearW_iff (t : Fin 8) (r : Fin 256) (j : Fin 3) (k : Fin 256) (h : ok t j) :
    nearW r.val (256 * j.val + k.val) ↔ near (qry t r).val (key t j k).val := by
  have ht := t.isLt; have hr := r.isLt; have hj := j.isLt; have hk := k.isLt
  obtain ⟨h1, h2⟩ := h
  have e : (key t j k).val = 256 * (t.val + j.val - 1) + k.val := by
    show 256 * min (t.val + j.val - 1) 7 + k.val = _; rw [Nat.min_eq_left (by omega)]
  have e' : (qry t r).val = 256 * t.val + r.val := rfl
  unfold nearW near
  rw [e, e']
  constructor <;> intro h <;> refine ⟨?_, ?_, ?_, ?_⟩ <;> omega

/-- A sum over eight blocks of which only the three around block `t` count. -/
theorem sum_blocks (t : Fin 8) (G : Nat → ℝ) (hG : ∀ b, b < 8 → (b + 1 < t.val ∨ t.val + 1 < b) → G b = 0) :
    ∑ j : Fin 3, (if ok t j then G (t.val + j.val - 1) else 0) = ∑ b : Fin 8, G b.val := by
  rw [Fin.sum_univ_three, Fin.sum_univ_eight]
  have h0 := hG 0; have h1 := hG 1; have h2 := hG 2; have h3 := hG 3
  have h4 := hG 4; have h5 := hG 5; have h6 := hG 6; have h7 := hG 7
  fin_cases t <;> simp_all [ok] <;> ring

/-- A sum over all keys, block by block. -/
theorem sum_by_block (g : Nat → ℝ) : ∑ u : Fin 2048, g u.val = ∑ b : Fin 8, ∑ k : Fin 256, g (256 * b.val + k.val) := by
  rw [← Fintype.sum_prod_type' (f := fun (b : Fin 8) (k : Fin 256) => g (256 * b.val + k.val))]
  refine (Fintype.sum_equiv (finProdFinEquiv (m := 8) (n := 256)) _ _ fun x => ?_).symm
  congr 1
  show _ = x.2.val + 256 * x.1.val
  omega

/-- A sum over the keys in a query's window is the sum over the three blocks around the query's own. -/
theorem window_sum (t : Fin 8) (r : Fin 256) (g : Fin 2048 → ℝ) :
    ∑ j : Fin 3, ∑ k : Fin 256,
        (if ok t j ∧ nearW r.val (256 * j.val + k.val) then g (key t j k) else 0)
      = ∑ u : Fin 2048, if near (qry t r).val u.val then g u else 0 := by
  have hr := r.isLt
  let f : Nat → ℝ := fun n => if h : n < 2048 then (if near (qry t r).val n then g ⟨n, h⟩ else 0) else 0
  have hf : ∀ u : Fin 2048, (if near (qry t r).val u.val then g u else 0) = f u.val := fun u => by
    simp only [f, dif_pos u.isLt]
  rw [Finset.sum_congr rfl fun u _ => hf u, sum_by_block,
    ← sum_blocks t (fun b => ∑ k : Fin 256, f (256 * b + k.val)) ?_]
  · refine Finset.sum_congr rfl fun j _ => ?_
    by_cases h : ok t j
    · rw [if_pos h]
      refine Finset.sum_congr rfl fun k _ => ?_
      have e : (key t j k).val = 256 * (t.val + j.val - 1) + k.val := by
        show 256 * min (t.val + j.val - 1) 7 + k.val = _
        have := h.2; rw [Nat.min_eq_left (by omega)]
      show _ = f _
      rw [← e, ← hf]
      exact if_congr ((and_iff_right h).trans (nearW_iff t r j k h)) rfl rfl
    · rw [if_neg h]
      exact Finset.sum_eq_zero fun k _ => if_neg fun hc => h hc.1
  · intro b hb hfar
    refine Finset.sum_eq_zero fun k _ => ?_
    have hk := k.isLt
    have hn : ¬ near (qry t r).val (256 * b + k.val) := by
      have e' : (qry t r).val = 256 * t.val + r.val := rfl
      unfold near; rw [e']; omega
    show f _ = 0
    simp only [f, dif_pos (show 256 * b + k.val < 2048 by omega), if_neg hn]

/-! ## The extended reals the programs compute with -/

/-- A masked score: the real score where the key counts, minus infinity elsewhere. -/
def pick (p : Prop) [Decidable p] (a : ℝ) : EReal := if p then (a : EReal) else ⊥

/-- The exponential of a masked score less a real shift. -/
theorem exp_pick (p : Prop) [Decidable p] (a μ : ℝ) :
    Ideal.exp (pick p a - (μ : EReal)) = ((if p then Real.exp (a - μ) else 0 : ℝ) : EReal) := by
  unfold pick
  split
  · rw [← EReal.coe_sub]; rfl
  · rw [EReal.bot_sub]; rfl

/-- Two to the power of a masked score less a real shift: the exponential, of the score times the logarithm of two. -/
theorem exp2_pick (p : Prop) [Decidable p] (a μ : ℝ) :
    Ideal.exp2 (pick p (a * (Real.log 2)⁻¹) - (μ : EReal))
      = ((if p then Real.exp (a - μ * Real.log 2) else 0 : ℝ) : EReal) := by
  have hl : Real.log 2 ≠ 0 := (Real.log_pos (by norm_num)).ne'
  unfold pick
  split
  · rw [← EReal.coe_sub, Ideal.exp2_coe, Real.rpow_eq_pow, Real.rpow_def_of_pos (by norm_num)]
    congr 2; field_simp
  · rw [EReal.bot_sub]; rfl

/-- No masked score is plus infinity. -/
theorem pick_lt_top (p : Prop) [Decidable p] (a : ℝ) : pick p a < ⊤ := by
  unfold pick
  split
  · exact EReal.coe_lt_top a
  · exact bot_lt_top

/-- The largest of a family of masked scores is not plus infinity. -/
theorem fold_pick_lt_top {ι : Type} [Fintype ι] (p : ι → Prop) [DecidablePred p] (a : ι → ℝ) :
    Finset.univ.fold max (⊥ : EReal) (fun i => pick (p i) (a i)) < ⊤ :=
  (Finset.fold_max_lt _).2 ⟨bot_lt_top, fun _ _ => pick_lt_top _ _⟩

/-- The largest of a family of masked scores is at least each score that counts. -/
theorem le_fold_pick {ι : Type} [Fintype ι] (p : ι → Prop) [DecidablePred p] (a : ι → ℝ) (i : ι) (h : p i) :
    (a i : EReal) ≤ Finset.univ.fold max (⊥ : EReal) (fun i => pick (p i) (a i)) :=
  (Finset.le_fold_max _).2 (Or.inr ⟨i, Finset.mem_univ _, by rw [pick, if_pos h]⟩)

/-- A value below plus infinity and at least some real is a real. -/
theorem real_of_between (x : EReal) (a : ℝ) (h : (a : EReal) ≤ x) (h' : x < ⊤) : ∃ μ : ℝ, x = μ := by
  induction x with
  | bot => exact absurd h (by simp)
  | coe r => exact ⟨r, rfl⟩
  | top => exact absurd h' (lt_irrefl _)

/-- A finite sum of reals is a real. -/
theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- The real entries of a 1 × 2048 × 2048 array. -/
def mat3 (x : (⟨3, ![1, 2048, 2048]⟩ : Shape).Idx → EReal) (s k : Fin 2048) : ℝ :=
  (x (fun a => match a with | ⟨0, _⟩ => (0 : Fin 1) | ⟨1, _⟩ => s | ⟨2, _⟩ => k)).toReal

/-- The real entries of a 2048 × `n` array. -/
def mat2 {n : Nat} (x : (⟨2, ![2048, n]⟩ : Shape).Idx → EReal) (s : Fin 2048) (k : Fin n) : ℝ :=
  (x (fun a => match a with | ⟨0, _⟩ => s | ⟨1, _⟩ => k)).toReal

/-- An array all of whose entries are real. -/
def Real' {s : Shape} (x : s.Idx → EReal) : Prop := ∀ i, x i = ((x i).toReal : EReal)

/-- An entry of a real 1 × 2048 × 2048 array. -/
theorem mat3_eq {x : (⟨3, ![1, 2048, 2048]⟩ : Shape).Idx → EReal} (h : Real' x)
    (i : (⟨3, ![1, 2048, 2048]⟩ : Shape).Idx) (s k : Fin 2048) (hs : (i 1).val = s.val) (hk : (i 2).val = k.val) :
    x i = (mat3 x s k : EReal) := by
  have e : i = fun a => match a with | ⟨0, _⟩ => (0 : Fin 1) | ⟨1, _⟩ => s | ⟨2, _⟩ => k := by
    funext a
    match a with
    | ⟨0, _⟩ => exact Subsingleton.elim (α := Fin 1) _ _
    | ⟨1, _⟩ => exact Fin.ext hs
    | ⟨2, _⟩ => exact Fin.ext hk
  rw [h i, e]; rfl

/-- An entry of a real 2048 × `n` array. -/
theorem mat2_eq {n : Nat} {x : (⟨2, ![2048, n]⟩ : Shape).Idx → EReal} (h : Real' x)
    (i : (⟨2, ![2048, n]⟩ : Shape).Idx) (s : Fin 2048) (k : Fin n) (hs : (i 0).val = s.val) (hk : (i 1).val = k.val) :
    x i = (mat2 x s k : EReal) := by
  have e : i = fun a => match a with | ⟨0, _⟩ => s | ⟨1, _⟩ => k := by
    funext a
    match a with
    | ⟨0, _⟩ => exact Fin.ext hs
    | ⟨1, _⟩ => exact Fin.ext hk
  rw [h i, e]; rfl

/-- A quotient of reals with a nonzero denominator. -/
theorem div_real (a b : ℝ) (h : b ≠ 0) : Ideal.div (a : EReal) (b : EReal) = ((a / b : ℝ) : EReal) := by
  rw [Ideal.div_coe h, ← EReal.coe_mul, mul_one_div]

end Cert.Spec

end
-- ==== Proof.HeadValue.lean ====
/- One attention head of the kernel, read entry by entry over the extended reals: from projected queries, keys and
   values and the bias of the window it computes the attention of `Spec`. -/
module

public import proofs.«01_k».proof.Proof.Heads
public import proofs.«01_k».proof.Proof.Spec
public import Idealize.ShloMosaic.Lib.MatmulPlain
public import Idealize.ShloMosaic.Lib.Pipeline.Value

@[expose] public section

set_option maxRecDepth 16384

noncomputable section

namespace Cert.KernelIdeal.Attn

open Idealize.ShloMosaic Idealize.SL.Sem Cert.KernelIdeal Cert.KernelIdeal.Gen Cert.Spec
open Idealize.ShloMosaic.ValueIdx (ix1 ix2)

/-! ## The steps of a head, entry by entry -/

/-- The mask constant is minus infinity. -/
theorem maskC_eq : (maskC : Ideal .f32) = (⊥ : EReal) := rfl

/-- A biased score: the product of a query row and a key row plus the bias, or minus infinity. -/
theorem score_apply (t j : BitVec 32) (q k : FVec Ideal S256x128 .bf16) (b : FVec Ideal S256x256 .f32) (r c : Fin 256) :
    score t j q k b (ix2 r c)
      = Scalar.select (blockOk t j) ((∑ d : Fin 128, q (ix2 r d) * k (ix2 c d)) + b (ix2 r c)) (⊥ : EReal) := by
  have e : matmul dot_S256x128_S256x128_S256x256_1_1_0_0_n_n none q k (constant S256x256 .f32 0x00000000#32) (ix2 r c)
      = ∑ d : Fin 128, q (ix2 r d) * k (ix2 c d) := by
    refine (Ideal.matmul_transposedRhs_apply (M := 256) (K := 128) (N := 256) none q k
      (constant S256x256 .f32 0x00000000#32) r c).trans ?_
    show Ideal.ofBits .f32 0x00000000#32 + _ = _
    rw [Ideal.ofBits_zero_f32, zero_add]
  unfold score
  rw [shapeCast_self, shapeCast_self, shapeCast_self]
  unfold Scalar.select
  split
  · exact congrArg (· + b (ix2 r c)) e
  · exact maskC_eq

/-- The largest score of a row. -/
theorem rowMax_apply (s : FVec Ideal S256x256 .f32) (r : Fin 256) :
    rowMax s (ix2 r (0 : Fin 1)) = Finset.univ.fold max (⊥ : EReal) (fun c : Fin 256 => s (ix2 r c)) := by
  unfold rowMax
  rw [shapeCast_apply _ _ (ix2 r (0 : Fin 1)) (ix1 r) (by
      rw [Shape.rowMajor_val_one, Shape.rowMajor_val_two]; show r.val = r.val * 1 + 0; omega)]
  refine (Ideal.multiReduction_maximumf_single _ _ _ _ _ _).trans ?_
  have eb : FloatOps.ofBits (F := Ideal) .f32 0xFF800000#32 = (⊥ : EReal) := by
    rw [Ideal.ofBits_def]; simp [Ideal.ofBits, Ideal.ieee]
  rw [eb]
  refine congrArg (Finset.fold max (⊥ : EReal) · _) (funext fun c => congrArg s (funext fun a => Fin.ext ?_))
  match a with
  | ⟨0, _⟩ => rfl
  | ⟨1, _⟩ => rfl

/-- The sum of a row of weights. -/
theorem rowSum_apply (s : FVec Ideal S256x256 .f32) (r : Fin 256) :
    rowSum s (ix2 r (0 : Fin 1)) = ∑ c : Fin 256, s (ix2 r c) := by
  unfold rowSum
  rw [shapeCast_apply _ _ (ix2 r (0 : Fin 1)) (ix1 r) (by
      rw [Shape.rowMajor_val_one, Shape.rowMajor_val_two]; show r.val = r.val * 1 + 0; omega)]
  refine (Ideal.multiReduction_add_single _ _ _ _ _ _).trans ?_
  refine Finset.sum_congr rfl fun c _ => congrArg s (funext fun a => Fin.ext ?_)
  match a with
  | ⟨0, _⟩ => rfl
  | ⟨1, _⟩ => rfl

/-- A column repeated along a row is read at the row. -/
theorem spread_apply {n : Nat} (x : FVec Ideal S256x1 .f32) (h : S256x1.Broadcasts ⟨2, ![256, n]⟩) (r : Fin 256) (c : Fin n) :
    broadcastTo ⟨2, ![256, n]⟩ x h (ix2 r c) = x (ix2 r (0 : Fin 1)) := by
  refine broadcastTo_apply x h (ix2 r c) (ix2 r (0 : Fin 1)) fun a => ?_
  match a with
  | ⟨0, _⟩ => rfl
  | ⟨1, _⟩ => rfl

/-- A weight. -/
theorem weight_apply (s : FVec Ideal S256x256 .f32) (mx : FVec Ideal S256x1 .f32) (r c : Fin 256) :
    weight s mx (ix2 r c) = Ideal.exp2 (s (ix2 r c) - mx (ix2 r (0 : Fin 1))) := by
  show Ideal.exp2 (s (ix2 r c) - broadcastTo S256x256 mx broadcasts_S256x1_S256x256 (ix2 r c)) = _
  rw [spread_apply mx broadcasts_S256x1_S256x256 r c]

/-- A weighted sum of values. -/
theorem mix_apply (e : FVec Ideal S256x256 .f32) (v : FVec Ideal S256x128 .bf16) (r : Fin 256) (d : Fin 128) :
    mix e v (ix2 r d) = ∑ c : Fin 256, e (ix2 r c) * v (ix2 c d) := by
  unfold mix
  rw [shapeCast_self]
  refine (Ideal.matmul_plain_apply (M := 256) (K := 256) (N := 128) none (truncf .bf16 e bitsLt_bf16_f32) v
    (constant S256x128 .f32 0x00000000#32) r d).trans ?_
  show Ideal.ofBits .f32 0x00000000#32 + _ = _
  rw [Ideal.ofBits_zero_f32, zero_add]
  rfl

/-- The single-precision one. -/
theorem ofBits_one : Ideal.ofBits .f32 0x3F800000#32 = ((1 : ℝ) : EReal) := by
  simp [Ideal.ofBits, Ideal.ieee, ← EReal.coe_mul]
  norm_num

/-- A head's output: the three weighted sums added up, times one over the three row sums added up. -/
theorem finish_apply (s0 s1 s2 : FVec Ideal S256x256 .f32) (mx : FVec Ideal S256x1 .f32)
    (v0 v1 v2 : FVec Ideal S256x128 .bf16) (r : Fin 256) (d : Fin 128) :
    finish s0 s1 s2 mx v0 v1 v2 (ix2 r d)
      = (((0 : EReal) + mix (weight s0 mx) v0 (ix2 r d)) + mix (weight s1 mx) v1 (ix2 r d)
            + mix (weight s2 mx) v2 (ix2 r d))
          * Ideal.div ((1 : ℝ) : EReal) (rowSum (weight s0 mx) (ix2 r (0 : Fin 1)) + rowSum (weight s1 mx) (ix2 r (0 : Fin 1))
            + rowSum (weight s2 mx) (ix2 r (0 : Fin 1))) := by
  unfold finish
  rw [shapeCast_self, ← ofBits_one, ← Ideal.ofBits_zero_f32]
  show (_ : EReal) * broadcastTo S256x128 _ broadcasts_S256x1_S256x128 (ix2 r d) = _
  rw [spread_apply _ broadcasts_S256x1_S256x128 r d]
  rfl

/-! ## The head -/

/-- The existence of a key block, as the kernel computes it. -/
theorem blockOk_eq : ∀ (T : Fin 8) (j : Fin 3),
    blockOk (BitVec.ofNat 32 T.val) (BitVec.ofNat 32 j.val) = if ok T j then 1#1 else 0#1 := by decide +kernel

/-- The factor the queries carry: the logarithm of two and the square root of the head width, both inverted. -/
def qscale : ℝ := (Real.log 2)⁻¹ * (√128)⁻¹

section Head

variable (P : Fin 2048 → Fin 6144 → ℝ) (h : Fin 16) (T : Fin 8)
  (q : FVec Ideal S256x128 .bf16) (K V : Fin 3 → FVec Ideal S256x128 .bf16) (B : Fin 3 → FVec Ideal S256x256 .f32)
  (hq : ∀ r d, q (ix2 r d) = ((P (qry T r) (col 0 h d) * qscale : ℝ) : EReal))
  (hK : ∀ j c d, K j (ix2 c d) = ((P (key T j c) (col 1 h d) : ℝ) : EReal))
  (hV : ∀ j c d, V j (ix2 c d) = ((P (key T j c) (col 2 h d) : ℝ) : EReal))
  (hB : ∀ j (r c : Fin 256), B j (ix2 r c) = if nearW r.val (256 * j.val + c.val) then (0 : EReal) else ⊥)

/-- The scores of the `j`-th of the three blocks. -/
abbrev sc (j : Fin 3) : FVec Ideal S256x256 .f32 := score (BitVec.ofNat 32 T.val) (BitVec.ofNat 32 j.val) q (K j) (B j)

include hq hK hB

/-- A score is the masked scaled score, in units of the logarithm of two. -/
theorem sc_eq (j : Fin 3) (r c : Fin 256) :
    sc T q K B j (ix2 r c)
      = pick (ok T j ∧ nearW r.val (256 * j.val + c.val)) (logit P h (qry T r) (key T j c) * (Real.log 2)⁻¹) := by
  have e : (∑ d : Fin 128, q (ix2 r d) * K j (ix2 c d))
      = ((logit P h (qry T r) (key T j c) * (Real.log 2)⁻¹ : ℝ) : EReal) := by
    have e' : logit P h (qry T r) (key T j c) * (Real.log 2)⁻¹
        = ∑ d : Fin 128, P (qry T r) (col 0 h d) * qscale * P (key T j c) (col 1 h d) := by
      unfold logit qscale
      rw [div_eq_mul_inv, mul_assoc, Finset.sum_mul]
      exact Finset.sum_congr rfl fun d _ => by ring
    rw [e', ← coe_sum]
    exact Finset.sum_congr rfl fun d _ => by rw [hq, hK, ← EReal.coe_mul]
  rw [sc, score_apply, blockOk_eq, e, hB]
  unfold pick
  by_cases h1 : ok T j
  · rw [if_pos h1]
    by_cases h2 : nearW r.val (256 * j.val + c.val)
    · rw [if_pos h2, if_pos ⟨h1, h2⟩]; exact add_zero _
    · rw [if_neg h2, if_neg fun hh => h2 hh.2]; exact EReal.add_bot _
  · have h3 : ¬ (ok T j ∧ nearW r.val (256 * j.val + c.val)) := fun hh => h1 hh.1
    rw [if_neg h1, if_neg h3]; rfl

/-- The shift of a row is a real. -/
theorem shift_real (r : Fin 256) :
    ∃ μ : ℝ, shift (sc T q K B 0) (sc T q K B 1) (sc T q K B 2) (ix2 r (0 : Fin 1)) = (μ : EReal) := by
  have em : ∀ j, rowMax (sc T q K B j) (ix2 r (0 : Fin 1)) = Finset.univ.fold max (⊥ : EReal) (fun c : Fin 256 =>
      pick (ok T j ∧ nearW r.val (256 * j.val + c.val)) (logit P h (qry T r) (key T j c) * (Real.log 2)⁻¹)) := fun j => by
    rw [rowMax_apply]
    exact congrArg (Finset.fold max (⊥ : EReal) · _) (funext fun c => sc_eq P h T q K B hq hK hB j r c)
  have lt : ∀ j, rowMax (sc T q K B j) (ix2 r (0 : Fin 1)) < ⊤ := fun j => by
    rw [em]; exact fold_pick_lt_top _ _
  have own : ok T 1 ∧ nearW r.val (256 * (1 : Fin 3).val + r.val) := by
    have := T.isLt
    refine ⟨⟨?_, ?_⟩, ?_⟩
    · show 1 ≤ T.val + 1; omega
    · show T.val + 1 ≤ 8; omega
    · show nearW r.val (256 * 1 + r.val); unfold nearW; omega
  have le : ((logit P h (qry T r) (key T 1 r) * (Real.log 2)⁻¹ : ℝ) : EReal) ≤ rowMax (sc T q K B 1) (ix2 r (0 : Fin 1)) := by
    rw [em]
    exact le_fold_pick (fun c : Fin 256 => ok T 1 ∧ nearW r.val (256 * (1 : Fin 3).val + c.val))
      (fun c => logit P h (qry T r) (key T 1 c) * (Real.log 2)⁻¹) r own
  show ∃ μ : ℝ, max (max (rowMax (sc T q K B 0) (ix2 r (0 : Fin 1))) (rowMax (sc T q K B 1) (ix2 r (0 : Fin 1))))
    (rowMax (sc T q K B 2) (ix2 r (0 : Fin 1))) = (μ : EReal)
  exact real_of_between _ _ (le.trans ((le_max_right _ _).trans (le_max_left _ _)))
    (max_lt (max_lt (lt 0) (lt 1)) (lt 2))

include hV

/-- The head's output is the attention's. -/
theorem head_eq (r : Fin 256) (d : Fin 128) :
    head (BitVec.ofNat 32 T.val) q (K 0) (K 1) (K 2) (V 0) (V 1) (V 2) (B 0) (B 1) (B 2) (ix2 r d)
      = ((attn P h (qry T r) d : ℝ) : EReal) := by
  obtain ⟨μ, hμ⟩ := shift_real P h T q K B hq hK hB r
  let ν : ℝ := μ * Real.log 2
  let g : Fin 2048 → ℝ := fun u => Real.exp (logit P h (qry T r) u - ν)
  let w : Fin 3 → Fin 256 → ℝ := fun j c => if ok T j ∧ nearW r.val (256 * j.val + c.val) then g (key T j c) else 0
  have ew : ∀ j c, weight (sc T q K B j) (shift (sc T q K B 0) (sc T q K B 1) (sc T q K B 2)) (ix2 r c)
      = ((w j c : ℝ) : EReal) := fun j c => by
    rw [weight_apply, hμ, sc_eq P h T q K B hq hK hB j r c, exp2_pick]
  have es : ∀ j, rowSum (weight (sc T q K B j) (shift (sc T q K B 0) (sc T q K B 1) (sc T q K B 2))) (ix2 r (0 : Fin 1))
      = ((∑ c, w j c : ℝ) : EReal) := fun j => by
    rw [rowSum_apply, ← coe_sum]; exact Finset.sum_congr rfl fun c _ => ew j c
  have ex : ∀ j, mix (weight (sc T q K B j) (shift (sc T q K B 0) (sc T q K B 1) (sc T q K B 2))) (V j) (ix2 r d)
      = ((∑ c, w j c * P (key T j c) (col 2 h d) : ℝ) : EReal) := fun j => by
    rw [mix_apply, ← coe_sum]; exact Finset.sum_congr rfl fun c _ => by rw [ew, hV, ← EReal.coe_mul]
  have sumW : ∑ j, ∑ c, w j c = ∑ u, wt P h (qry T r) ν u := window_sum T r g
  have sumX : ∑ j, ∑ c, w j c * P (key T j c) (col 2 h d) = ∑ u, wt P h (qry T r) ν u * P u (col 2 h d) := by
    have hw := window_sum T r fun u => g u * P u (col 2 h d)
    refine Eq.trans ?_ (hw.trans ?_)
    · refine Finset.sum_congr rfl fun j _ => Finset.sum_congr rfl fun c _ => ?_
      show (if _ then _ else _) * _ = _
      rw [ite_mul, zero_mul]
    · refine Finset.sum_congr rfl fun u _ => ?_
      unfold wt
      rw [ite_mul, zero_mul]
  rw [Fin.sum_univ_three] at sumW sumX
  have pos := wt_sum_pos P h (qry T r) ν
  refine (finish_apply (sc T q K B 0) (sc T q K B 1) (sc T q K B 2) (shift (sc T q K B 0) (sc T q K B 1) (sc T q K B 2))
    (V 0) (V 1) (V 2) r d).trans ?_
  rw [ex, ex, ex, es, es, es, zero_add, ← EReal.coe_add, ← EReal.coe_add, ← EReal.coe_add, ← EReal.coe_add, sumW, sumX,
    div_real _ _ pos.ne', ← EReal.coe_mul, mul_one_div, attn_shift]

end Head

end Cert.KernelIdeal.Attn

end
-- ==== Proof.BlockValue.lean ====
/- What one point of each launch computes, read entry by entry over the extended reals: the attention's heads side by
   side and their projection, and the projection of the activations to queries, keys and values. -/
module

public import proofs.«01_k».proof.Proof.Body
public import proofs.«01_k».proof.Proof.HeadValue
public import Idealize.ShloMosaic.Lib.Pipeline.ValueKit.Tiles

@[expose] public section

set_option maxRecDepth 16384

noncomputable section

namespace Cert.KernelIdeal.Attn

open Idealize.ShloMosaic
open Idealize.SL.Sem Cert.KernelIdeal Cert.KernelIdeal.Gen Cert.Spec
open Idealize.ShloMosaic.ValueIdx (ix1 ix2)

/-! ## The heads side by side -/

/-- Column `c` of part `p` (queries, keys, values) of the projected columns. -/
def part (p : Fin 3) (c : Fin 2048) : Fin 6144 := ⟨2048 * p.val + c.val, by have := p.isLt; have := c.isLt; omega⟩

/-- Column `d` of head `h` among the 2048 columns of a part. -/
def wide (h : Fin 16) (d : Fin 128) : Fin 2048 := ⟨128 * h.val + d.val, by have := h.isLt; have := d.isLt; omega⟩

/-- Column `k` of block `j` among the 768 columns of the bias. -/
def wide3 (j : Fin 3) (k : Fin 256) : Fin 768 := ⟨256 * j.val + k.val, by have := j.isLt; have := k.isLt; omega⟩

theorem part_wide (p : Fin 3) (h : Fin 16) (d : Fin 128) : part p (wide h d) = col p h d :=
  Fin.ext (by show 2048 * p.val + (128 * h.val + d.val) = 2048 * p.val + 128 * h.val + d.val; omega)

/-- A head's columns of a block. -/
theorem ld_head (x : Vec Ideal S256x2048 .bf16) (h : Fin 16) (r : Fin 256) (d : Fin 128) :
    View.ld x (headCols h) (ix2 r d) = x (ix2 r (wide h d)) := by
  refine congrArg x (funext fun a => Fin.ext ?_)
  match a with
  | ⟨0, _⟩ => show 0 + 1 * r.val = r.val; omega
  | ⟨1, _⟩ => show 128 * h.val + 1 * d.val = 128 * h.val + d.val; omega

/-- A key block's columns of the bias. -/
theorem ld_bias (x : Vec Ideal S256x768 .f32) (j : Fin 3) (r k : Fin 256) :
    View.ld x (biasCols j) (ix2 r k) = x (ix2 r (wide3 j k)) := by
  refine congrArg x (funext fun a => Fin.ext ?_)
  match a with
  | ⟨0, _⟩ => show 0 + 1 * r.val = r.val; omega
  | ⟨1, _⟩ => show 256 * j.val + 1 * k.val = 256 * j.val + k.val; omega

section Block

variable (P : Fin 2048 → Fin 6144 → ℝ) (T : Fin 8) (i : grid1.Coords) (hi : (i 0).val = T.val)
  (x : Vec Ideal S256x2048 .bf16) (K V : Fin 3 → Vec Ideal S256x2048 .bf16) (B : Vec Ideal S256x768 .f32)
  (hx : ∀ r c, x (ix2 r c) = ((P (qry T r) (part 0 c) * qscale : ℝ) : EReal))
  (hK : ∀ j r c, K j (ix2 r c) = ((P (key T j r) (part 1 c) : ℝ) : EReal))
  (hV : ∀ j r c, V j (ix2 r c) = ((P (key T j r) (part 2 c) : ℝ) : EReal))
  (hB : ∀ (r : Fin 256) (w : Fin 768), B (ix2 r w) = if nearW r.val w.val then (0 : EReal) else ⊥)

include hi hx hK hV hB

/-- One head of a block is the attention's. -/
theorem headAt_eq (h : Fin 16) (r : Fin 256) (d : Fin 128) :
    headAt i x (K 0) (K 1) (K 2) (V 0) (V 1) (V 2) B h (ix2 r d) = ((attn P h (qry T r) d : ℝ) : EReal) := by
  unfold headAt
  rw [hi]
  exact head_eq P h T (View.ld x (headCols h)) (fun j => View.ld (K j) (headCols h)) (fun j => View.ld (V j) (headCols h))
    (fun j => View.ld B (biasCols j))
    (fun r d => by rw [ld_head, hx, part_wide]) (fun j c d => by rw [ld_head, hK, part_wide])
    (fun j c d => by rw [ld_head, hV, part_wide]) (fun j r c => by rw [ld_bias, hB]; rfl) r d

/-- The heads side by side: column `c` is column `c mod 128` of head `c / 128`. -/
theorem headsOut_eq (r : Fin 256) (c : Fin 2048) :
    headsOut i x (K 0) (K 1) (K 2) (V 0) (V 1) (V 2) B (ix2 r c)
      = ((attn P ⟨c.val / 128, by have := c.isLt; omega⟩ (qry T r) ⟨c.val % 128, by omega⟩ : ℝ) : EReal) := by
  have hall : ∀ h : Fin 16, h ∈ ([15, 14, 13, 12, 11, 10, 9, 8, 7, 6, 5, 4, 3, 2, 1, 0] : List (Fin 16)) := by decide
  refine View.canon_eq_of_allAt _ _ _ ⟨_, List.mem_map.mpr ⟨⟨c.val / 128, by have := c.isLt; omega⟩, hall _, rfl⟩, ?_⟩ ?_
  · show ix2 r c ∈ (headCols _).set
    unfold headCols
    rw [Rect.mem_set_unit]
    intro a
    match a with
    | ⟨0, _⟩ => exact ⟨Nat.zero_le _, by show r.val < 0 + 256; have := r.isLt; omega⟩
    | ⟨1, _⟩ =>
      exact ⟨by show 128 * (c.val / 128) ≤ c.val; omega, by show c.val < 128 * (c.val / 128) + 128; omega⟩
  · intro p hp y hy
    obtain ⟨h, -, rfl⟩ := List.mem_map.mp hp
    obtain ⟨r', d, rfl⟩ : ∃ (r' : Fin 256) (d : Fin 128), y = ix2 r' d := ⟨y 0, y 1, ValueIdx.eq_ix2 y⟩
    have e0 : 0 + 1 * r'.val = r.val := congrArg Fin.val (congrFun hy 0)
    have e1 : 128 * h.val + 1 * d.val = c.val := congrArg Fin.val (congrFun hy 1)
    have := d.isLt
    obtain rfl : r' = r := Fin.ext (by omega)
    refine (headAt_eq P T i hi x K V B hx hK hV hB h r' d).trans ?_
    have eh : h = ⟨c.val / 128, by have := c.isLt; omega⟩ := Fin.ext (by show h.val = c.val / 128; omega)
    have ed : d = ⟨c.val % 128, by omega⟩ := Fin.ext (by show d.val = c.val % 128; omega)
    rw [← eh, ← ed]

/-- The block the attention's body leaves: the heads side by side, projected. -/
theorem blockOut_eq (w : Vec Ideal S2048x2048 .bf16) (O : Fin 2048 → Fin 2048 → ℝ)
    (hw : ∀ c d, w (ix2 c d) = ((O c d : ℝ) : EReal)) (r : Fin 256) (d : Fin 2048) :
    blockOut i x (K 0) (K 1) (K 2) (V 0) (V 1) (V 2) B w (ix2 r d)
      = ((∑ c : Fin 2048, attn P ⟨c.val / 128, by have := c.isLt; omega⟩ (qry T r) ⟨c.val % 128, by omega⟩ * O c d : ℝ)
          : EReal) := by
  unfold blockOut k1_pay188
  refine (Ideal.matmul_plain_apply (M := 256) (K := 2048) (N := 2048) none _ w (constant S256x2048 .f32 0x00000000#32)
    r d).trans ?_
  show Ideal.ofBits .f32 0x00000000#32 + _ = _
  rw [Ideal.ofBits_zero_f32, zero_add, ← coe_sum]
  exact Finset.sum_congr rfl fun c _ => by
    rw [headsOut_eq P T i hi x K V B hx hK hV hB r c, hw, ← EReal.coe_mul]

end Block

/-! ## The projection to queries, keys and values -/

/-- The kernel's test whether a projected column is a query's. -/
theorem queryCol_eq : ∀ (t : Fin 8) (j : Fin 768),
    Scalar.cmpi .slt (Scalar.addi (Scalar.muli (BitVec.ofNat 32 t.val) 768#32) (BitVec.ofNat 32 j.val)) 2048#32
      = if 768 * t.val + j.val < 2048 then 1#1 else 0#1 := by decide +kernel

/-- The named constant the queries are scaled by. -/
theorem named_qscale (b : BitVec 32) : (Named.named (F := Ideal) (φ := .f32) κ "qscale" b) = ((qscale : ℝ) : EReal) := rfl

/-- The block the projection's body leaves: the product, query columns scaled. -/
theorem k0_pay1_apply (i : grid0.Coords) (t : Fin 8) (hi : (i 0).val = t.val) (a : Vec Ideal S2048x2048 .f32)
    (b : Vec Ideal S2048x768 .f32) (r : Fin 2048) (j : Fin 768) :
    k0_pay1 i a b (ix2 r j)
      = (∑ k : Fin 2048, a (ix2 r k) * b (ix2 k j))
          * (if 768 * t.val + j.val < 2048 then ((qscale : ℝ) : EReal) else ((1 : ℝ) : EReal)) := by
  have e : matmul (F := Ideal) (φ₁ := .f32) (φ₂ := .f32) dot_S2048x2048_S2048x768_S2048x768_1_0_0_1_n_n none a b (constant S2048x768 .f32 0x00000000#32) (ix2 r j)
      = ∑ k : Fin 2048, a (ix2 r k) * b (ix2 k j) := by
    refine (Ideal.matmul_plain_apply (M := 2048) (K := 2048) (N := 768) none a b (constant S2048x768 .f32 0x00000000#32)
      r j).trans ?_
    show Ideal.ofBits .f32 0x00000000#32 + _ = _
    rw [Ideal.ofBits_zero_f32, zero_add]
  unfold k0_pay1
  dsimp only
  rw [shapeCast_self]
  refine Eq.trans (b := (matmul (F := Ideal) (φ₁ := .f32) (φ₂ := .f32) dot_S2048x2048_S2048x768_S2048x768_1_0_0_1_n_n none a b
    (constant S2048x768 .f32 0x00000000#32) (ix2 r j) : EReal) * broadcastTo S2048x768 _ broadcasts_S1x768_S2048x768
      (ix2 r j)) rfl ?_
  rw [e, broadcastTo_apply _ broadcasts_S1x768_S2048x768 (ix2 r j) (ix2 (0 : Fin 1) j) (fun x => by
    match x with
    | ⟨0, _⟩ => rfl
    | ⟨1, _⟩ => rfl)]
  refine congrArg (_ * ·) ?_
  show Scalar.select (Scalar.cmpi .slt (Scalar.addi (Scalar.muli (BitVec.ofNat 32 (i 0).val) 768#32)
    (iota .tc S1x768 32 [1] iota_S1x768_d1_w32 (ix2 (0 : Fin 1) j))) 2048#32) ((qscale : ℝ) : EReal)
    (Ideal.ofBits .f32 0x3F800000#32) = _
  rw [iota_single_apply, hi, show ((ix2 (0 : Fin 1) j : S1x768.Idx) 1).val = j.val from rfl, queryCol_eq, ofBits_one]
  by_cases hc : 768 * t.val + j.val < 2048
  · rw [if_pos hc, if_pos hc]; rfl
  · rw [if_neg hc, if_neg hc]; rfl

end Cert.KernelIdeal.Attn

end
-- ==== Proof.BiasValue.lean ====
/- The bias of the window, as the host computes it before the attention: zero where a key is in a query's window and
   minus infinity elsewhere. -/
module

public import proofs.«01_k».proof.Proof.Run
public import proofs.«01_k».proof.Proof.HeadValue
public import Idealize.ShloMosaic.Lib.IdealHost

@[expose] public section

set_option maxRecDepth 16384

noncomputable section

namespace Cert.KernelIdeal.Attn

open Idealize.ShloMosaic Idealize.ShloMosaic.TcCoe Idealize.SL.Sem Cert.KernelIdeal Cert.KernelIdeal.Gen Cert.Spec
open Idealize.ShloMosaic.ValueIdx (ix1 ix2)

/-! ## The words the window is decided by -/

/-- Bias column `w`, counted from the query block's own first key. -/
def keyWord (w : Nat) : BitVec 32 := IntOp.subi (BitVec.ofNat 32 w) 256#32

/-- A word between minus three and two. -/
def inBand (x : BitVec 32) : BitVec 1 := IntOp.andi (IntOp.cmpi .sge x 4294967293#32) (IntOp.cmpi .sle x 2#32)

theorem keyRow : ∀ w : Fin 768, IntOp.shrsi .host (keyWord w.val) 5#32 = IntOp.subi (BitVec.ofNat 32 (w.val / 32)) 8#32 := by
  decide +kernel
theorem qryRow : ∀ r : Fin 256, IntOp.shrsi .host (BitVec.ofNat 32 r.val) 5#32 = BitVec.ofNat 32 (r.val / 32) := by
  decide +kernel
theorem keyCol : ∀ w : Fin 768, IntOp.andi (keyWord w.val) 31#32 = BitVec.ofNat 32 (w.val % 32) := by decide +kernel
theorem qryCol : ∀ r : Fin 256, IntOp.andi (BitVec.ofNat 32 r.val) 31#32 = BitVec.ofNat 32 (r.val % 32) := by decide +kernel
theorem rowBand : ∀ (a : Fin 24) (b : Fin 8),
    inBand (IntOp.subi (IntOp.subi (BitVec.ofNat 32 a.val) 8#32) (BitVec.ofNat 32 b.val))
      = if a.val ≤ b.val + 10 ∧ b.val + 8 ≤ a.val + 3 then 1#1 else 0#1 := by decide +kernel
theorem colBand : ∀ a b : Fin 32,
    inBand (IntOp.subi (BitVec.ofNat 32 a.val) (BitVec.ofNat 32 b.val))
      = if a.val ≤ b.val + 2 ∧ b.val ≤ a.val + 3 then 1#1 else 0#1 := by decide +kernel

/-- The window's bit for row `r` of a query block and column `w` of the bias. -/
def windowBit (r w : Nat) : BitVec 1 :=
  let dr := IntOp.subi (IntOp.shrsi .host (keyWord w) 5#32) (IntOp.shrsi .host (BitVec.ofNat 32 r) 5#32)
  let dc := IntOp.subi (IntOp.andi (keyWord w) 31#32) (IntOp.andi (BitVec.ofNat 32 r) 31#32)
  IntOp.andi (IntOp.andi (inBand dr) (IntOp.cmpi .sge dc 4294967293#32)) (IntOp.cmpi .sle dc 2#32)

theorem andi_if (p q : Prop) [Decidable p] [Decidable q] [Decidable (p ∧ q)] :
    IntOp.andi (if p then 1#1 else 0#1) (if q then 1#1 else 0#1) = if p ∧ q then 1#1 else 0#1 := by
  by_cases hp : p <;> by_cases hq : q <;> simp [hp, hq, IntOp.andi]

/-- The bit is set exactly in the window. -/
theorem windowBit_eq (r : Fin 256) (w : Fin 768) :
    windowBit r.val w.val = if nearW r.val w.val then 1#1 else 0#1 := by
  have hassoc : ∀ x y z : BitVec 1, IntOp.andi (IntOp.andi x y) z = IntOp.andi x (IntOp.andi y z) := by decide
  unfold windowBit
  dsimp only
  rw [hassoc, keyRow, qryRow, keyCol, qryCol]
  have h1 := rowBand ⟨w.val / 32, by have := w.isLt; omega⟩ ⟨r.val / 32, by have := r.isLt; omega⟩
  have h2 := colBand ⟨w.val % 32, by omega⟩ ⟨r.val % 32, by omega⟩
  refine (congrArg₂ IntOp.andi h1 h2).trans ?_
  have hn : nearW r.val w.val ↔ (w.val / 32 ≤ r.val / 32 + 10 ∧ r.val / 32 + 8 ≤ w.val / 32 + 3)
      ∧ (w.val % 32 ≤ r.val % 32 + 2 ∧ r.val % 32 ≤ w.val % 32 + 3) := by unfold nearW; tauto
  rw [andi_if]
  by_cases h : nearW r.val w.val
  · rw [if_pos h, if_pos (hn.mp h)]
  · rw [if_neg h, if_neg fun hh => h (hn.mpr hh)]

/-! ## The host's operations -/

variable (V : Valuation τ sig (Elt Ideal))

set_option maxHeartbeats 2000000 in
/-- The mask the first stretch computes. -/
theorem mask_at (r : Fin 256) (w : Fin 768) :
    StableHlo.after hostOps1 V (Proc.devRef .tc main_v32) (ix2 r w) = windowBit r.val w.val := by
  after_results_simp
  rfl

set_option maxHeartbeats 1000000 in
/-- The bias inside the window. -/
theorem inside_at (i : S_.Idx) : StableHlo.after hostOps1 V (Proc.devRef .tc main_cst) i = (0 : EReal) := by
  after_results_simp
  exact Ideal.ofBits_zero_f32

set_option maxHeartbeats 1000000 in
/-- The bias outside the window. -/
theorem outside_at (i : S_.Idx) : StableHlo.after hostOps1 V (Proc.devRef .tc main_cst_8) i = (⊥ : EReal) := by
  after_results_simp
  show Ideal.ofBits .f32 0xFF800000#32 = ⊥
  simp [Ideal.ofBits, Ideal.ieee]

/-- The choice between the two. -/
theorem choice_at (r : Fin 256) (w : Fin 768) :
    StableHlo.after hostOps1_1 V (Proc.devRef .tc main_v33) (ix2 r w)
      = Scalar.select (V (Proc.devRef .tc main_v32) (ix2 r w)) (V (Proc.devRef .tc main_cst) ValueIdx.ix0)
          (V (Proc.devRef .tc main_cst_8) ValueIdx.ix0) := by
  simp only [hostOps1_1, StableHlo.TRef.ternary, StableHlo.TRef.unary, StableHlo.TRef.toBuf, StableHlo.TRef.ofBuf, cast_eq]
  after_results_simp
  show Scalar.select (V (Proc.devRef .tc main_v32) (ix2 r w))
    (broadcastInDim S256x768 ![] bcast_S_S256x768 (V (Proc.devRef .tc main_cst)) (ix2 r w))
    (broadcastInDim S256x768 ![] bcast_S_S256x768 (V (Proc.devRef .tc main_cst_8)) (ix2 r w)) = _
  rw [ValueIdx.broadcastInDim_scalar_apply bcast_S_S256x768, ValueIdx.broadcastInDim_scalar_apply bcast_S_S256x768]

/-- The last stretch copies. -/
theorem copy_at (i : S256x768.Idx) :
    StableHlo.after hostOps1_2 V (Proc.devRef .tc main_v34) i = V (Proc.devRef .tc main_v33) i := by
  after_results_simp
  rfl

variable (m : (ℓ : Loc nD τ sig) → Buf (Elt Ideal) ℓ)

/-- The bias at the attention's entry: zero in the window, minus infinity elsewhere. -/
theorem bias_at (c : Dev nD) (r : Fin 256) (w : Fin 768) :
    in1 m c main_v34 (ix2 r w) = if nearW r.val w.val then (0 : EReal) else ⊥ := by
  refine (copy_at (at4 m c) (ix2 r w)).trans ((choice_at (at3 m c) r w).trans ?_)
  have e1 : at3 m c (Proc.devRef .tc main_v32) (ix2 r w) = windowBit r.val w.val := mask_at (at2 m c) r w
  have e2 : at3 m c (Proc.devRef .tc main_cst) ValueIdx.ix0 = (0 : EReal) := inside_at (at2 m c) _
  have e3 : at3 m c (Proc.devRef .tc main_cst_8) ValueIdx.ix0 = (⊥ : EReal) := outside_at (at2 m c) _
  rw [e1, e2, e3, windowBit_eq]
  by_cases h : nearW r.val w.val
  · rw [if_pos h, if_pos h]; rfl
  · rw [if_neg h, if_neg h]; rfl

end Cert.KernelIdeal.Attn

end
-- ==== Proof.ArrayValue.lean ====
/- The arrays the two launches leave, read entry by entry over the extended reals, from the program's arguments. -/
module

public import proofs.«01_k».proof.Proof.BlockValue
public import proofs.«01_k».proof.Proof.BiasValue
public import Idealize.ShloMosaic.Lib.Pipeline.ValueKit.Geometry

@[expose] public section

set_option maxRecDepth 16384

noncomputable section

namespace Cert.KernelIdeal.Attn

open Idealize.ShloMosaic Idealize.ShloMosaic.TcCoe Idealize.SL.Sem Cert.KernelIdeal Cert.KernelIdeal.Gen Cert.Spec
open Idealize.ShloMosaic.Pipeline (Dat)
open Idealize.ShloMosaic.ValueIdx (ix1 ix2)

variable (V : (c : Dev nD) → (b : Ref sig .tc) → Buf (Elt Ideal) ((c : Thread nD τ).loc b)) (c : Dev nD)

/-! ## The projection's array -/

/-- The block of each of the projection's windows at a point. -/
theorem idx0 : ∀ t : Fin cfg0.N,
    win0_0.index t = ![0, 0] ∧ win0_1.index t = ![0, t.val] ∧ win0_2.index t = ![0, t.val] :=
  (by decide +kernel : ∀ t : Fin grid0.N, _)

/-- The activations' block is the whole array. -/
theorem projBlk0 (t : Fin cfg0.N) (r k : Fin 2048) : projBlk V c 0 t (ix2 r k) = V c main_v0 (ix2 r k) := by
  obtain ⟨e0, -, -⟩ := idx0 t
  unfold projBlk
  blk_ext [e0]

/-- The weights' block at point `t` is their `t`-th 768 columns. -/
theorem projBlk1 (t : Fin cfg0.N) (k : Fin 2048) (j : Fin 768) (q : Fin 6144) (hq : q.val = 768 * t.val + j.val) :
    projBlk V c 1 t (ix2 k j) = V c main_arg1 (ix2 k q) := by
  obtain ⟨-, e1, -⟩ := idx0 t
  unfold projBlk
  blk_ext [e1]
  show t.val * 768 + j.val = q.val
  omega

/-- The projection's grid has one coordinate, the point. -/
theorem coord0 : ∀ t : Fin cfg0.N, (grid0.coords t 0).val = t.val := (by decide +kernel : ∀ t : Fin grid0.N, _)

/-- The projected entry: queries scaled, keys and values plain. -/
def qkv (X : Fin 2048 → Fin 2048 → ℝ) (W : Fin 2048 → Fin 6144 → ℝ) (r : Fin 2048) (q : Fin 6144) : EReal :=
  ((proj X W r q * (if q.val < 2048 then qscale else 1) : ℝ) : EReal)

/-- What the projection's body leaves at a point, at the array's entries. -/
theorem qkv_point (X : Fin 2048 → Fin 2048 → ℝ) (W : Fin 2048 → Fin 6144 → ℝ)
    (hX : ∀ r k, V c main_v0 (ix2 r k) = ((X r k : ℝ) : EReal)) (hW : ∀ k q, V c main_arg1 (ix2 k q) = ((W k q : ℝ) : EReal))
    (t : Fin cfg0.N) (r : Fin 2048) (j : Fin 768) (q : Fin 6144) (hq : q.val = 768 * t.val + j.val) :
    k0_pay1 (grid0.coords t) (projBlk V c 0 t) (projBlk V c 1 t) (ix2 r j) = qkv X W r q := by
  rw [k0_pay1_apply (grid0.coords t) t (coord0 t) (projBlk V c 0 t) (projBlk V c 1 t) r j, ← hq]
  have e : (∑ k : Fin 2048, (show EReal from projBlk V c 0 t (ix2 r k)) * (show EReal from projBlk V c 1 t (ix2 k j)))
      = ((proj X W r q : ℝ) : EReal) := by
    unfold proj
    rw [← coe_sum]
    refine Finset.sum_congr rfl fun k _ => ?_
    dsimp only
    rw [projBlk0 V c t r k, projBlk1 V c t k j q hq, hX, hW, ← EReal.coe_mul]
  rw [e]
  unfold qkv
  by_cases h : q.val < 2048
  · rw [if_pos h, if_pos h, EReal.coe_mul]
  · rw [if_neg h, if_neg h, EReal.coe_mul]

/-- The projected array: queries scaled, keys and values plain. -/
theorem qkv_at (X : Fin 2048 → Fin 2048 → ℝ) (W : Fin 2048 → Fin 6144 → ℝ)
    (hX : ∀ r k, V c main_v0 (ix2 r k) = ((X r k : ℝ) : EReal)) (hW : ∀ k q, V c main_arg1 (ix2 k q) = ((W k q : ℝ) : EReal)) :
    (dat0 V c).arrAt 2 cfg0.N = fun i : S2048x6144.Idx => qkv X W (i 0) (i 1) := by
  refine (dat0 V c).arrAt_eq_of_covers 2 _ (by decide +kernel) fun t hf y => ?_
  obtain ⟨-, -, e2⟩ := idx0 t
  obtain ⟨r, j, rfl⟩ : ∃ (r : Fin 2048) (j : Fin 768), y = ix2 r j := ⟨y 0, y 1, ValueIdx.eq_ix2 y⟩
  have ht : t.val < 8 := t.isLt
  have hj : j.val < 768 := j.isLt
  have he : ((cfg0.win 2).blk t).view.emb (ix2 r j) = (ix2 r (⟨768 * t.val + j.val, by omega⟩ : Fin 6144) : S2048x6144.Idx) := by
    blk_ext [e2]
    show t.val * 768 + j.val = 768 * t.val + j.val
    omega
  rw [he, dat0_out]
  exact qkv_point V c X W hX hW t r j _ rfl

/-! ## The attention's array -/

/-- The block of each of the attention's windows at a point. -/
theorem idx1 : ∀ t : Fin cfg1.N,
    win1_0.index t = ![t.val, 0] ∧ win1_1.index t = ![min (t.val + 0 - 1) 7, 1] ∧ win1_2.index t = ![min (t.val + 1 - 1) 7, 1]
      ∧ win1_3.index t = ![min (t.val + 2 - 1) 7, 1] ∧ win1_4.index t = ![min (t.val + 0 - 1) 7, 2]
      ∧ win1_5.index t = ![min (t.val + 1 - 1) 7, 2] ∧ win1_6.index t = ![min (t.val + 2 - 1) 7, 2]
      ∧ win1_7.index t = ![0, 0] ∧ win1_8.index t = ![0, 0] ∧ win1_9.index t = ![t.val, 0] :=
  (by decide +kernel : ∀ t : Fin grid1.N, _)

/-- The attention's grid has one coordinate, the point. -/
theorem coord1 : ∀ t : Fin cfg1.N, (grid1.coords t 0).val = t.val := (by decide +kernel : ∀ t : Fin grid1.N, _)

section Attention

variable (t : Fin cfg1.N) (r : Fin 256) (k : Fin 2048)

/-- The query block. -/
theorem attnBlk0 (T : Fin 8) (hT : T.val = t.val) :
    attnBlk V c 0 t (ix2 r k) = V c main_v1 (ix2 (qry T r) (part 0 k)) := by
  have e := (idx1 t).1
  unfold attnBlk
  blk_ext [e]
  · show t.val * 256 + r.val = 256 * T.val + r.val
    omega
  · show k.val = 2048 * 0 + k.val
    omega

/-- The three key blocks. -/
def keyBlks : Fin 3 → Vec Ideal S256x2048 .bf16 := ![attnBlk V c 1 t, attnBlk V c 2 t, attnBlk V c 3 t]

/-- The three value blocks. -/
def valBlks : Fin 3 → Vec Ideal S256x2048 .bf16 := ![attnBlk V c 4 t, attnBlk V c 5 t, attnBlk V c 6 t]

/-- Key block `j` is the keys of the positions `key` names. -/
theorem keyBlks_eq (T : Fin 8) (hT : T.val = t.val) (j : Fin 3) :
    keyBlks V c t j (ix2 r k) = V c main_v1 (ix2 (key T j r) (part 1 k)) := by
  obtain ⟨-, e0, e1, e2, -⟩ := idx1 t
  have hr : ∀ j : Nat, min (t.val + j - 1) 7 * 256 + r.val = 256 * min (T.val + j - 1) 7 + r.val := fun j => by omega
  have hk : 1 * 2048 + k.val = 2048 * 1 + k.val := by omega
  match j with
  | 0 => show attnBlk V c 1 t (ix2 r k) = _; unfold attnBlk; blk_ext [e0] <;> first | exact hr 0 | exact hk
  | 1 => show attnBlk V c 2 t (ix2 r k) = _; unfold attnBlk; blk_ext [e1] <;> first | exact hr 1 | exact hk
  | 2 => show attnBlk V c 3 t (ix2 r k) = _; unfold attnBlk; blk_ext [e2] <;> first | exact hr 2 | exact hk

/-- Value block `j` is the values of the positions `key` names. -/
theorem valBlks_eq (T : Fin 8) (hT : T.val = t.val) (j : Fin 3) :
    valBlks V c t j (ix2 r k) = V c main_v1 (ix2 (key T j r) (part 2 k)) := by
  obtain ⟨-, -, -, -, e0, e1, e2, -⟩ := idx1 t
  have hr : ∀ j : Nat, min (t.val + j - 1) 7 * 256 + r.val = 256 * min (T.val + j - 1) 7 + r.val := fun j => by omega
  have hk : 2 * 2048 + k.val = 2048 * 2 + k.val := by omega
  match j with
  | 0 => show attnBlk V c 4 t (ix2 r k) = _; unfold attnBlk; blk_ext [e0] <;> first | exact hr 0 | exact hk
  | 1 => show attnBlk V c 5 t (ix2 r k) = _; unfold attnBlk; blk_ext [e1] <;> first | exact hr 1 | exact hk
  | 2 => show attnBlk V c 6 t (ix2 r k) = _; unfold attnBlk; blk_ext [e2] <;> first | exact hr 2 | exact hk

/-- The output weights' block is the whole array. -/
theorem attnBlk7_eq (a d : Fin 2048) : attnBlk V c 7 t (ix2 a d) = V c main_arg2 (ix2 a d) := by
  obtain ⟨-, -, -, -, -, -, -, e, -⟩ := idx1 t
  unfold attnBlk
  blk_ext [e]

/-- The bias's block is the whole array. -/
theorem attnBlk8_eq (w : Fin 768) : attnBlk V c 8 t (ix2 r w) = V c main_v34 (ix2 r w) := by
  obtain ⟨-, -, -, -, -, -, -, -, e, -⟩ := idx1 t
  unfold attnBlk
  blk_ext [e]

end Attention

/-- What the attention's body leaves at a point, at the array's entries. -/
theorem out_point (X : Fin 2048 → Fin 2048 → ℝ) (W : Fin 2048 → Fin 6144 → ℝ) (O : Fin 2048 → Fin 2048 → ℝ)
    (hP : ∀ s q, V c main_v1 (ix2 s q) = qkv X W s q) (hO : ∀ a d, V c main_arg2 (ix2 a d) = ((O a d : ℝ) : EReal))
    (hB : ∀ (r : Fin 256) (w : Fin 768), V c main_v34 (ix2 r w) = if nearW r.val w.val then (0 : EReal) else ⊥)
    (t : Fin cfg1.N) (T : Fin 8) (hT : T.val = t.val) (r : Fin 256) (d : Fin 2048) :
    outBlk V c t (ix2 r d) = ((out X W O (qry T r) d : ℝ) : EReal) := by
  have hw : ∀ a d, outW V c (ix2 a d) = ((O a d : ℝ) : EReal) := fun a d => by
    unfold outW k1_pay1
    rw [shapeCast_self]
    exact (attnBlk7_eq V c t0 a d).trans (hO a d)
  have plain : ∀ s (p : Fin 3) k, p.val ≠ 0 → qkv X W s (part p k) = ((proj X W s (part p k) : ℝ) : EReal) := fun s p k hp => by
    unfold qkv
    rw [if_neg (by show ¬ 2048 * p.val + k.val < 2048; omega), mul_one]
  exact blockOut_eq (proj X W) T (grid1.coords t) ((coord1 t).trans hT.symm) (attnBlk V c 0 t) (keyBlks V c t) (valBlks V c t)
    (attnBlk V c 8 t)
    (fun r k => by
      rw [attnBlk0 V c t r k T hT, hP]
      unfold qkv
      rw [if_pos (by show 2048 * 0 + k.val < 2048; have := k.isLt; omega)])
    (fun j r k => by rw [keyBlks_eq V c t r k T hT j, hP, plain _ _ _ (by decide)])
    (fun j r k => by rw [valBlks_eq V c t r k T hT j, hP, plain _ _ _ (by decide)])
    (fun r w => by rw [attnBlk8_eq, hB]) (outW V c) O hw r d

/-- The array the attention leaves: the layer's output. -/
theorem out_at (X : Fin 2048 → Fin 2048 → ℝ) (W : Fin 2048 → Fin 6144 → ℝ) (O : Fin 2048 → Fin 2048 → ℝ)
    (hP : ∀ s q, V c main_v1 (ix2 s q) = qkv X W s q) (hO : ∀ a d, V c main_arg2 (ix2 a d) = ((O a d : ℝ) : EReal))
    (hB : ∀ (r : Fin 256) (w : Fin 768), V c main_v34 (ix2 r w) = if nearW r.val w.val then (0 : EReal) else ⊥) :
    (dat1 V c).arrAt 9 cfg1.N = fun i : S2048x2048.Idx => ((out X W O (i 0) (i 1) : ℝ) : EReal) := by
  refine (dat1 V c).arrAt_eq_of_covers 9 _ (by decide +kernel) fun t hf y => ?_
  obtain ⟨-, -, -, -, -, -, -, -, -, e⟩ := idx1 t
  obtain ⟨r, d, rfl⟩ : ∃ (r : Fin 256) (d : Fin 2048), y = ix2 r d := ⟨y 0, y 1, ValueIdx.eq_ix2 y⟩
  have he : ((cfg1.win 9).blk t).view.emb (ix2 r d) = (ix2 (qry (⟨t.val, t.isLt⟩ : Fin 8) r) d : S2048x2048.Idx) := by
    blk_ext [e]
    show t.val * 256 + r.val = 256 * t.val + r.val
    omega
  rw [he, dat1_out]
  exact out_point V c X W O hP hO hB t ⟨t.val, t.isLt⟩ rfl r d

/-! ## The program -/

section Program

variable (m : (ℓ : Loc nD τ sig) → Buf (Elt Ideal) ℓ)

/-- The projection's activations: the first argument without its leading axis. -/
theorem reshape_in (V : Valuation τ sig (Elt Ideal)) (r k : Fin 2048) (i : S1x2048x2048.Idx) (hr : (i 1).val = r.val)
    (hk : (i 2).val = k.val) :
    StableHlo.after hostOps0 V (Proc.devRef .tc main_v0) (ix2 r k) = V (Proc.devRef .tc main_arg0) i := by
  after_results_simp
  refine shapeCast_apply _ _ (ix2 r k) i ?_
  have h0 : (i 0).val = 0 := Nat.lt_one_iff.mp (i 0).isLt
  rw [Shape.rowMajor_val_three, Shape.rowMajor_val_two]
  show ((i 0).val * 2048 + (i 1).val) * 2048 + (i 2).val = r.val * 2048 + k.val
  rw [h0, hr, hk]
  omega

/-- The result: the attention's array with a leading axis. -/
theorem reshape_out (V : Valuation τ sig (Elt Ideal)) (r k : Fin 2048) (i : S1x2048x2048.Idx) (hr : (i 1).val = r.val)
    (hk : (i 2).val = k.val) :
    StableHlo.after hostOps2 V (Proc.devRef .tc main_v36) i = V (Proc.devRef .tc main_v35) (ix2 r k) := by
  after_results_simp
  refine shapeCast_apply _ _ i (ix2 r k) ?_
  have h0 : (i 0).val = 0 := Nat.lt_one_iff.mp (i 0).isLt
  rw [Shape.rowMajor_val_three, Shape.rowMajor_val_two]
  show r.val * 2048 + k.val = ((i 0).val * 2048 + (i 1).val) * 2048 + (i 2).val
  rw [h0, hr, hk]
  omega

/-- The projected array is at the attention's entry as the projection left it. -/
theorem in1_v1 : in1 m c main_v1 = (dat0 (in0 m) c).arrAt 2 cfg0.N := by
  have hn : main_v1 ∉ hostOps1_W ∧ main_v1 ∉ hostOps1_1_W ∧ main_v1 ∉ hostOps1_2_W := by decide +kernel
  exact (StableHlo.after_of_writes_sub hostOps1_2 _ hostOps1_2_writes hn.2.2).trans <|
    (StableHlo.after_of_writes_sub hostOps1_1 _ hostOps1_1_writes hn.2.1).trans <|
    (StableHlo.after_of_writes_sub hostOps1 _ hostOps1_writes hn.1).trans (at2_arr m c 2)

/-- The output weights are at the attention's entry as launched. -/
theorem in1_arg2 : in1 m c main_arg2 = m ((c : Thread nD τ).loc main_arg2) := by
  have hn : main_arg2 ∉ hostOps0_W ∧ main_arg2 ∉ hostOps1_W ∧ main_arg2 ∉ hostOps1_1_W ∧ main_arg2 ∉ hostOps1_2_W := by
    decide +kernel
  exact at5_keep m c main_arg2 hn.1 hn.2.1 hn.2.2.1 hn.2.2.2 (by decide +kernel)

/-- The projection's weights are at its entry as launched. -/
theorem in0_arg1 : in0 m c main_arg1 = m ((c : Thread nD τ).loc main_arg1) :=
  StableHlo.after_of_writes_sub hostOps0 _ hostOps0_writes (by decide +kernel)

/-- The result of the program: entry `(s, d)` of the layer's output, whenever the arguments' entries are reals. -/
theorem result_at (h0 : Real' (m ((c : Thread nD τ).loc main_arg0))) (h1 : Real' (m ((c : Thread nD τ).loc main_arg1)))
    (h2 : Real' (m ((c : Thread nD τ).loc main_arg2))) (i : S1x2048x2048.Idx) :
    at7 m c (Proc.devRef .tc main_v36) i
      = ((out (mat3 (m ((c : Thread nD τ).loc main_arg0))) (mat2 (m ((c : Thread nD τ).loc main_arg1)))
          (mat2 (m ((c : Thread nD τ).loc main_arg2))) (i 1) (i 2) : ℝ) : EReal) := by
  let s : Fin 2048 := i 1
  let d : Fin 2048 := i 2
  let at3d : Fin 2048 → Fin 2048 → S1x2048x2048.Idx := fun r k a =>
    match a with | ⟨0, _⟩ => (0 : Fin 1) | ⟨1, _⟩ => r | ⟨2, _⟩ => k
  have hX : ∀ r k, in0 m c main_v0 (ix2 r k) = ((mat3 (m ((c : Thread nD τ).loc main_arg0)) r k : ℝ) : EReal) :=
    fun r k => (reshape_in (at0 m c) r k (at3d r k) rfl rfl).trans (mat3_eq h0 (at3d r k) r k rfl rfl)
  have hW : ∀ k q, in0 m c main_arg1 (ix2 k q) = ((mat2 (m ((c : Thread nD τ).loc main_arg1)) k q : ℝ) : EReal) :=
    fun k q => (congrFun (in0_arg1 c m) (ix2 k q)).trans (mat2_eq h1 (ix2 k q) k q rfl rfl)
  have hP : ∀ s q, in1 m c main_v1 (ix2 s q) = qkv (mat3 (m ((c : Thread nD τ).loc main_arg0)))
      (mat2 (m ((c : Thread nD τ).loc main_arg1))) s q := fun s q =>
    (congrFun (in1_v1 c m) (ix2 s q)).trans (congrFun (qkv_at (in0 m) c _ _ hX hW) (ix2 s q))
  have hO : ∀ a d, in1 m c main_arg2 (ix2 a d) = ((mat2 (m ((c : Thread nD τ).loc main_arg2)) a d : ℝ) : EReal) :=
    fun a d => (congrFun (in1_arg2 c m) (ix2 a d)).trans (mat2_eq h2 (ix2 a d) a d rfl rfl)
  refine (reshape_out (at6 m c) s d i rfl rfl).trans ((congrFun (at6_arr m c 9) (ix2 s d)).trans ?_)
  exact congrFun (out_at (in1 m) c _ _ _ hP hO (bias_at m c)) (ix2 s d)

end Program

end Cert.KernelIdeal.Attn

end
-- ==== Proof.RefValue.lean ====
/- The reference's result, read entry by entry, is the real attention layer of `Spec`: its projections, its masked and
   scaled scores, its softmax, its weighted sum of values and its output projection. -/
module

public import proofs.«01_k».proof.Proof.Gen.ReferenceIdeal.Read
public import proofs.«01_k».proof.Proof.Spec

@[expose] public section

set_option maxRecDepth 16384

noncomputable section

namespace Cert.RefValue

open Idealize.ShloMosaic Cert.ReferenceIdeal Cert.ReferenceIdeal.Gen Cert.ReferenceIdeal.Read Cert.Spec

/-! ## The mask -/

/-- Along one axis of the board the reference's two comparisons say: at most three before, at most two after. -/
theorem band : ∀ a b : Fin 64,
    IntOp.andi (IntOp.cmpi .sge (BitVec.ofNat 32 a.val) (IntOp.subi (BitVec.ofNat 32 b.val) 3#32))
        (IntOp.cmpi .sle (BitVec.ofNat 32 a.val)
          (IntOp.subi (IntOp.addi (IntOp.subi (BitVec.ofNat 32 b.val) 3#32) 6#32) 1#32))
      = if a.val ≤ b.val + 2 ∧ b.val ≤ a.val + 3 then 1#1 else 0#1 := by decide +kernel

/-- The reference's mask at a query and a key is the window. -/
theorem mask_eq (i : S1x16x2048x2048.Idx) :
    val_main_call0_v1 (F := Ideal) i = if near (i 2).val (i 3).val then 1#1 else 0#1 := by
  have h2 : (i 2).val < 2048 := (i 2).isLt
  have h3 : (i 3).val < 2048 := (i 3).isLt
  have r := band ⟨(i 3).val / 32, by omega⟩ ⟨(i 2).val / 32, by omega⟩
  have c := band ⟨(i 3).val % 32, by omega⟩ ⟨(i 2).val % 32, by omega⟩
  rw [val_main_call0_v1_apply, val_main_v55_apply, val_main_v54_apply, val_main_v42_apply, val_main_v53_apply]
  have er : IntOp.andi (val_main_v36 (F := Ideal) (idx_main_v55 (idx_main_call0_v1 i)))
      (val_main_v41 (F := Ideal) (idx_main_v55 (idx_main_call0_v1 i)))
      = if (i 3).val / 32 ≤ (i 2).val / 32 + 2 ∧ (i 2).val / 32 ≤ (i 3).val / 32 + 3 then 1#1 else 0#1 := by
    simp only [val_main_v36_apply, val_main_v41_apply, val_main_v34_apply, val_main_v35_apply, val_main_v39_apply,
      val_main_v40_apply, val_main_v32_apply, val_main_v33_apply, val_main_v37_apply, val_main_v38_apply,
      val_main_v18_apply, val_main_v16_apply, val_main_v14_apply, val_main_v21_apply, val_main_v23_apply,
      val_main_v25_apply, val_main_v20_apply, val_main_v22_apply, val_main_v24_apply, val_main_c_apply,
      val_main_c_0_apply, val_main_c_1_apply]
    exact r
  have ec : IntOp.andi (val_main_v47 (F := Ideal) (idx_main_v55 (idx_main_call0_v1 i)))
      (val_main_v52 (F := Ideal) (idx_main_v55 (idx_main_call0_v1 i)))
      = if (i 3).val % 32 ≤ (i 2).val % 32 + 2 ∧ (i 2).val % 32 ≤ (i 3).val % 32 + 3 then 1#1 else 0#1 := by
    simp only [val_main_v47_apply, val_main_v52_apply, val_main_v45_apply, val_main_v46_apply, val_main_v50_apply,
      val_main_v51_apply, val_main_v43_apply, val_main_v44_apply, val_main_v48_apply, val_main_v49_apply,
      val_main_v19_apply, val_main_v17_apply, val_main_v15_apply, val_main_v27_apply, val_main_v29_apply,
      val_main_v31_apply, val_main_v26_apply, val_main_v28_apply, val_main_v30_apply, val_main_c_2_apply,
      val_main_c_3_apply, val_main_c_4_apply]
    exact c
  have hn : near (i 2).val (i 3).val
      ↔ ((i 3).val / 32 ≤ (i 2).val / 32 + 2 ∧ (i 2).val / 32 ≤ (i 3).val / 32 + 3)
        ∧ (i 3).val % 32 ≤ (i 2).val % 32 + 2 ∧ (i 2).val % 32 ≤ (i 3).val % 32 + 3 := by
    unfold near; exact and_assoc.symm
  rw [er, ec]
  by_cases hr : (i 3).val / 32 ≤ (i 2).val / 32 + 2 ∧ (i 2).val / 32 ≤ (i 3).val / 32 + 3
  · by_cases hc : (i 3).val % 32 ≤ (i 2).val % 32 + 2 ∧ (i 2).val % 32 ≤ (i 3).val % 32 + 3
    · rw [if_pos hr, if_pos hc, if_pos (hn.2 ⟨hr, hc⟩)]; decide
    · rw [if_pos hr, if_neg hc, if_neg fun h => hc (hn.1 h).2]; decide
  · rw [if_neg hr, if_neg fun h => hr (hn.1 h).1]
    split <;> decide

section Values

variable (x0 : S1x2048x2048.Idx → EReal) (x1 : S2048x6144.Idx → EReal) (x2 : S2048x2048.Idx → EReal)
  (h0 : Real' x0) (h1 : Real' x1) (h2 : Real' x2)

/-- The projections the layer's arguments give. -/
abbrev P : Fin 2048 → Fin 6144 → ℝ := proj (mat3 x0) (mat2 x1)

include h0 h1

/-- The reference's projection. -/
theorem v0_eq (i : S1x2048x6144.Idx) :
    val_main_v0 (F := Ideal) x0 x1 i = ((P x0 x1 (i 1) (i 2) : ℝ) : EReal) := by
  rw [val_main_v0_apply]
  refine (Finset.sum_congr rfl fun k _ => ?_).trans (coe_sum _)
  rw [mat3_eq h0 (lidx_main_v0 i k) (i 1) k rfl rfl, mat2_eq h1 (ridx_main_v0 i k) k (i 2) rfl rfl, EReal.coe_mul]

/-- The projection at a row and a column given by their numbers. -/
theorem v0_at (i : S1x2048x6144.Idx) (s : Fin 2048) (c : Fin 6144) (hs : (i 1).val = s.val) (hc : (i 2).val = c.val) :
    val_main_v0 (F := Ideal) x0 x1 i = ((P x0 x1 s c : ℝ) : EReal) := by
  rw [v0_eq x0 x1 h0 h1, show i 1 = s from Fin.ext hs, show i 2 = c from Fin.ext hc]

/-- The queries, head by head. -/
theorem v5_eq (i : S1x16x2048x128.Idx) (h : Fin 16) (s : Fin 2048) (d : Fin 128)
    (eh : (i 1).val = h.val) (es : (i 2).val = s.val) (ed : (i 3).val = d.val) :
    val_main_v5 (F := Ideal) x0 x1 i = ((P x0 x1 s (col 0 h d) : ℝ) : EReal) := by
  have b0 : (i 0).val < 1 := (i 0).isLt
  have b1 : (i 1).val < 16 := (i 1).isLt
  have b2 : (i 2).val < 2048 := (i 2).isLt
  have b3 : (i 3).val < 128 := (i 3).isLt
  rw [val_main_v5_apply, val_main_v4_apply, val_main_v1_apply]
  refine v0_at x0 x1 h0 h1 _ _ _ ?_ ?_
  · show ((((i 0).val * 2048 + (i 2).val) * 16 + (i 1).val) * 128 + (i 3).val) / 2048 % 2048 = s.val
    omega
  · show ((((i 0).val * 2048 + (i 2).val) * 16 + (i 1).val) * 128 + (i 3).val) % 2048 = 2048 * 0 + 128 * h.val + d.val
    omega

/-- The keys, head by head. -/
theorem v7_eq (i : S1x16x2048x128.Idx) (h : Fin 16) (s : Fin 2048) (d : Fin 128)
    (eh : (i 1).val = h.val) (es : (i 2).val = s.val) (ed : (i 3).val = d.val) :
    val_main_v7 (F := Ideal) x0 x1 i = ((P x0 x1 s (col 1 h d) : ℝ) : EReal) := by
  have b0 : (i 0).val < 1 := (i 0).isLt
  have b1 : (i 1).val < 16 := (i 1).isLt
  have b2 : (i 2).val < 2048 := (i 2).isLt
  have b3 : (i 3).val < 128 := (i 3).isLt
  rw [val_main_v7_apply, val_main_v6_apply, val_main_v2_apply]
  refine v0_at x0 x1 h0 h1 _ _ _ ?_ ?_
  · show ((((i 0).val * 2048 + (i 2).val) * 16 + (i 1).val) * 128 + (i 3).val) / 2048 % 2048 = s.val
    omega
  · show 2048 + ((((i 0).val * 2048 + (i 2).val) * 16 + (i 1).val) * 128 + (i 3).val) % 2048 = 2048 * 1 + 128 * h.val + d.val
    omega

/-- The values, head by head. -/
theorem v9_eq (i : S1x16x2048x128.Idx) (h : Fin 16) (s : Fin 2048) (d : Fin 128)
    (eh : (i 1).val = h.val) (es : (i 2).val = s.val) (ed : (i 3).val = d.val) :
    val_main_v9 (F := Ideal) x0 x1 i = ((P x0 x1 s (col 2 h d) : ℝ) : EReal) := by
  have b0 : (i 0).val < 1 := (i 0).isLt
  have b1 : (i 1).val < 16 := (i 1).isLt
  have b2 : (i 2).val < 2048 := (i 2).isLt
  have b3 : (i 3).val < 128 := (i 3).isLt
  rw [val_main_v9_apply, val_main_v8_apply, val_main_v3_apply]
  refine v0_at x0 x1 h0 h1 _ _ _ ?_ ?_
  · show ((((i 0).val * 2048 + (i 2).val) * 16 + (i 1).val) * 128 + (i 3).val) / 2048 % 2048 = s.val
    omega
  · show 4096 + ((((i 0).val * 2048 + (i 2).val) * 16 + (i 1).val) * 128 + (i 3).val) % 2048 = 2048 * 2 + 128 * h.val + d.val
    omega

/-- The scaled scores. -/
theorem v13_eq (i : S1x16x2048x2048.Idx) (h : Fin 16) (s t : Fin 2048)
    (eh : (i 1).val = h.val) (es : (i 2).val = s.val) (et : (i 3).val = t.val) :
    val_main_v13 (F := Ideal) x0 x1 i = ((logit (P x0 x1) h s t : ℝ) : EReal) := by
  have e : val_main_v10 (F := Ideal) x0 x1 i
      = ((∑ d, P x0 x1 s (col 0 h d) * P x0 x1 t (col 1 h d) : ℝ) : EReal) := by
    rw [val_main_v10_apply]
    refine (Finset.sum_congr rfl fun k _ => ?_).trans (coe_sum _)
    rw [v5_eq x0 x1 h0 h1 (lidx_main_v10 i k) h s k eh es rfl, v7_eq x0 x1 h0 h1 (ridx_main_v10 i k) h t k eh et rfl,
      ← EReal.coe_mul]
  have ed : val_main_v12 (F := Ideal) i = ((√128 : ℝ) : EReal) := by
    rw [val_main_v12_apply, val_main_v11_apply, val_main_cst_apply, Ideal.hostUnary_sqrt_def, Ideal.ofBits_def]
    have : Ideal.ofBits .f32 0x43000000#32 = ((128 : ℝ) : EReal) := by
      simp [Ideal.ofBits, Ideal.ieee, ← EReal.coe_mul]; norm_num
    rw [this, Ideal.sqrt_coe, if_neg (by norm_num)]
  rw [val_main_v13_apply, e, ed, Ideal.hostDivf_def, div_real _ _ (by positivity)]
  rfl

/-- The masked scores. -/
theorem v56_eq (i : S1x16x2048x2048.Idx) (h : Fin 16) (s t : Fin 2048)
    (eh : (i 1).val = h.val) (es : (i 2).val = s.val) (et : (i 3).val = t.val) :
    val_main_v56 (F := Ideal) x0 x1 i = pick (near s.val t.val) (logit (P x0 x1) h s t) := by
  have eb : val_main_call0_v2 (F := Ideal) i = (⊥ : EReal) := by
    rw [val_main_call0_v2_apply, val_main_call0_v0_apply, val_main_cst_5_apply, Ideal.ofBits_def]
    simp [Ideal.ofBits, Ideal.ieee]
  rw [val_main_v56_apply, mask_eq, v13_eq x0 x1 h0 h1 i h s t eh es et, eb, es, et]
  unfold pick
  split
  · rfl
  · rfl

/-- The row maximum is a real. -/
theorem v59_real (j : S1x16x2048.Idx) (h : Fin 16) (s : Fin 2048) (eh : (j 1).val = h.val) (es : (j 2).val = s.val) :
    ∃ μ : ℝ, val_main_v59 (F := Ideal) x0 x1 j = (μ : EReal) := by
  have e58 : val_main_v58 (F := Ideal) j = (⊥ : EReal) := by
    rw [val_main_v58_apply, val_main_cst_7_apply, Ideal.ofBits_def]
    simp [Ideal.ofBits, Ideal.ieee]
  have e57 : val_main_v57 (F := Ideal) x0 x1 j = (Finset.univ : Finset (Fin 2048)).fold max (⊥ : EReal)
      (fun t => pick (near s.val t.val) (logit (P x0 x1) h s t)) := by
    unfold val_main_v57
    rw [Host.reduce_eq_fold_single (FloatOps.maximumf (F := Ideal) (φ := .f32)) (val_main_v56 (F := Ideal) x0 x1)
      (val_main_cst_6 (F := Ideal)) reducesTo_S1x16x2048x2048_S1x16x2048_d3 (by decide) h_S_ j]
    have eb : (val_main_cst_6 (F := Ideal)) (Shape.Idx.first h_S_) = (⊥ : EReal) := by
      rw [val_main_cst_6_apply, Ideal.ofBits_def]; simp [Ideal.ofBits, Ideal.ieee]
    rw [eb]
    refine congrArg (Finset.fold max (⊥ : EReal) · _) (funext fun t => ?_)
    exact v56_eq x0 x1 h0 h1 _ h s t eh es rfl
  rw [val_main_v59_apply, e58, e57, Ideal.maximumf_def, max_eq_right bot_le]
  exact real_of_between _ _
    (le_fold_pick (fun t : Fin 2048 => near s.val t.val) (fun t => logit (P x0 x1) h s t) s (near_self _))
    (fold_pick_lt_top (fun t : Fin 2048 => near s.val t.val) (fun t => logit (P x0 x1) h s t))

omit h0 h1 in
/-- The place of a head and a query in the row maxima. -/
abbrev row (h : Fin 16) (s : Fin 2048) : S1x16x2048.Idx := fun a => match a with
  | ⟨0, _⟩ => (0 : Fin 1)
  | ⟨1, _⟩ => h
  | ⟨2, _⟩ => s

/-- The shift the reference takes a row with. -/
def shiftOf (h : Fin 16) (s : Fin 2048) : ℝ := (v59_real x0 x1 h0 h1 (row h s) h s rfl rfl).choose

/-- The unnormalised weights. -/
theorem v63_eq (i : S1x16x2048x2048.Idx) (h : Fin 16) (s t : Fin 2048)
    (eh : (i 1).val = h.val) (es : (i 2).val = s.val) (et : (i 3).val = t.val) :
    val_main_v63 (F := Ideal) x0 x1 i = ((wt (P x0 x1) h s (shiftOf x0 x1 h0 h1 h s) t : ℝ) : EReal) := by
  have e : idx_main_v60 (idx_main_v61 i) = row h s := by
    funext a
    match a with
    | ⟨0, _⟩ => rfl
    | ⟨1, _⟩ => exact Fin.ext eh
    | ⟨2, _⟩ => exact Fin.ext es
  rw [val_main_v63_apply, Ideal.hostUnary_exp_def, val_main_v62_apply, Ideal.subf_def,
    v56_eq x0 x1 h0 h1 i h s t eh es et, val_main_v61_apply, val_main_v60_apply, e,
    (v59_real x0 x1 h0 h1 (row h s) h s rfl rfl).choose_spec, exp_pick]
  rfl

/-- The weights' row sums. -/
theorem v64_eq (j : S1x16x2048.Idx) (h : Fin 16) (s : Fin 2048) (eh : (j 1).val = h.val) (es : (j 2).val = s.val) :
    val_main_v64 (F := Ideal) x0 x1 j = ((∑ t, wt (P x0 x1) h s (shiftOf x0 x1 h0 h1 h s) t : ℝ) : EReal) := by
  have ez : (val_main_cst_8 (F := Ideal)) (Shape.Idx.first h_S_) = (0 : EReal) := by
    rw [val_main_cst_8_apply, Ideal.ofBits_def]; exact Ideal.ofBits_zero_f32
  rw [val_main_v64_apply, ez, zero_add]
  refine (Finset.sum_congr rfl fun t _ => ?_).trans (coe_sum _)
  exact v63_eq x0 x1 h0 h1 (idx_main_v64 j t) h s t eh es rfl

/-- The heads' outputs. -/
theorem v68_eq (i : S1x16x2048x128.Idx) (h : Fin 16) (s : Fin 2048) (d : Fin 128)
    (eh : (i 1).val = h.val) (es : (i 2).val = s.val) (ed : (i 3).val = d.val) :
    val_main_v68 (F := Ideal) x0 x1 i = ((attn (P x0 x1) h s d : ℝ) : EReal) := by
  have hS := wt_sum_pos (P x0 x1) h s (shiftOf x0 x1 h0 h1 h s)
  rw [val_main_v68_apply, ← attn_shift (P x0 x1) h s (shiftOf x0 x1 h0 h1 h s), Finset.sum_div]
  refine (Finset.sum_congr rfl fun t _ => ?_).trans (coe_sum _)
  rw [val_main_v67_apply, val_main_v66_apply, val_main_v65_apply,
    v64_eq x0 x1 h0 h1 (idx_main_v65 (idx_main_v66 (lidx_main_v68 i t))) h s eh es,
    v63_eq x0 x1 h0 h1 (lidx_main_v68 i t) h s t eh es rfl, v9_eq x0 x1 h0 h1 (ridx_main_v68 i t) h t d eh rfl ed,
    Ideal.hostDivf_def, div_real _ _ hS.ne', ← EReal.coe_mul, div_mul_eq_mul_div]

/-- The heads' outputs side by side. -/
theorem v70_eq (i : S1x2048x2048.Idx) (s c : Fin 2048) (es : (i 1).val = s.val) (hc : (i 2).val = c.val) :
    val_main_v70 (F := Ideal) x0 x1 i
      = ((attn (P x0 x1) ⟨c.val / 128, by have := c.isLt; omega⟩ s ⟨c.val % 128, by omega⟩ : ℝ) : EReal) := by
  have b0 : (i 0).val < 1 := (i 0).isLt
  have b1 : (i 1).val < 2048 := (i 1).isLt
  have b2 : (i 2).val < 2048 := (i 2).isLt
  rw [val_main_v70_apply, val_main_v69_apply]
  refine v68_eq x0 x1 h0 h1 _ _ _ _ ?_ ?_ ?_
  · show (((i 0).val * 2048 + (i 1).val) * 2048 + (i 2).val) / 128 % 16 = c.val / 128
    omega
  · show (((i 0).val * 2048 + (i 1).val) * 2048 + (i 2).val) / 2048 % 2048 = s.val
    omega
  · show (((i 0).val * 2048 + (i 1).val) * 2048 + (i 2).val) % 128 = c.val % 128
    omega

include h2

/-- The reference's result is the layer. -/
theorem v71_eq (i : S1x2048x2048.Idx) :
    val_main_v71 (F := Ideal) x0 x1 x2 i = ((out (mat3 x0) (mat2 x1) (mat2 x2) (i 1) (i 2) : ℝ) : EReal) := by
  rw [val_main_v71_apply]
  refine (Finset.sum_congr rfl fun c _ => ?_).trans (coe_sum _)
  rw [v70_eq x0 x1 h0 h1 (lidx_main_v71 i c) (i 1) c rfl rfl, mat2_eq h2 (ridx_main_v71 i c) c (i 2) rfl rfl, EReal.coe_mul]

end Values

end Cert.RefValue

end
-- ==== Proof.Finite.lean ====
/- The precondition read at the extended reals: arrays whose entries all have a finite absolute value have real entries. -/
module

public import proofs.«01_k».proof.Defs
public import proofs.«01_k».proof.Proof.Gen.Pre_finite
public import proofs.«01_k».proof.Proof.Spec
public import Idealize.ShloMosaic.Lib.ReduceAll
public import Idealize.ShloMosaic.Lib.IdealHost

@[expose] public section

noncomputable section

namespace Cert.Finite

open Idealize.ShloMosaic Idealize.SL.Sem Cert.Spec

/-- An extended real with an absolute value below infinity is a real. -/
theorem real_of_abs_lt {x : EReal} (h : max x (-x) < ⊤) : x = (x.toReal : EReal) := by
  refine (EReal.coe_toReal ?_ ?_).symm
  · rintro rfl; simp at h
  · rintro rfl; simp at h

/-- The single-precision infinity. -/
theorem ofBits_inf : Ideal.ofBits .f32 0x7F800000#32 = (⊤ : EReal) := by
  simp [Ideal.ofBits, Ideal.ieee]

/-- An array of which "every absolute value is below infinity" evaluates to one has real entries. -/
theorem real_of_all {s u t : Shape} {axes : List (Fin s.rank)} [Subsingleton t.Idx] (x : FVec Ideal s .f32)
    (hb : (⟨0, ![]⟩ : Shape).BroadcastsInDim s ![]) (init : u.Idx → BitVec 1) (h : s.ReducesTo axes t) (hu : 0 < u.numel)
    (j : t.Idx)
    (e : Host.reduce IntOp.andi (cmpf .olt (Host.absf x) (broadcastInDim s ![] hb (constant ⟨0, ![]⟩ .f32 0x7F800000#32)))
      init h hu j = 1#1) : Real' x := fun i => by
  have hi := Host.reduce_andi_all _ init h hu j e i
  have hc : Ideal.cmp .olt (max (x i) (-(x i)) : EReal) (Ideal.ofBits .f32 0x7F800000#32) = 1#1 := by
    refine Eq.trans ?_ hi
    show _ = Ideal.cmp .olt (max (x i) (-(x i)) : EReal)
      (broadcastInDim s ![] hb (constant (F := Ideal) ⟨0, ![]⟩ .f32 0x7F800000#32) i)
    rw [ValueIdx.broadcastInDim_scalar_apply hb]
    rfl
  rw [ofBits_inf] at hc
  refine real_of_abs_lt ?_
  by_contra hn
  simp [Ideal.cmp, hn] at hc

/-- Two bits whose conjunction is one are one. -/
theorem bits_of_andi : ∀ a b : BitVec 1, IntOp.andi a b = 1#1 → a = 1#1 ∧ b = 1#1 := by decide

instance : Subsingleton (Shape.Idx Cert.Pre_finite.S_) := ⟨fun _ _ => funext fun a => a.elim0⟩

/-- Under the precondition every argument has real entries. -/
theorem args_real (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Real' (m ((c.tc : Thread Cert.KernelIdeal.nD Cert.KernelIdeal.τ).loc Cert.KernelIdeal.main_arg0))
    ∧ Real' (m ((c.tc : Thread Cert.KernelIdeal.nD Cert.KernelIdeal.τ).loc Cert.KernelIdeal.main_arg1))
    ∧ Real' (m ((c.tc : Thread Cert.KernelIdeal.nD Cert.KernelIdeal.τ).loc Cert.KernelIdeal.main_arg2)) := by
  have hf := congrFun (h c) ValueIdx.ix0
  obtain ⟨h01, h2⟩ := bits_of_andi _ _ hf
  obtain ⟨h0, h1⟩ := bits_of_andi _ _ h01
  exact ⟨real_of_all _ _ _ _ _ _ h0, real_of_all _ _ _ _ _ _ h1, real_of_all _ _ _ _ _ _ h2⟩

end Cert.Finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Lib.Quiescent
public import proofs.«01_k».proof.Proof.Run
public import proofs.«01_k».proof.Proof.KRun
public import proofs.«01_k».proof.Proof.ArrayValue
public import proofs.«01_k».proof.Proof.RefValue
public import proofs.«01_k».proof.Proof.Finite

@[expose] public section

noncomputable section

namespace Cert.Proof

open Idealize.ShloMosaic Idealize.SL.Sem

/-- The reference's frame: it ends with the three arguments as launched; it has no semaphore, so every counter is zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) _⟩)
    (Cert.ReferenceIdeal.Value.run m g)

/-- The kernel's result is the reference's, entry by entry, whenever the arguments have real entries. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite (hPre_finite := Cert.Pre_finite.Gen.facts) m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v71 m' c
      = Cert.KernelIdeal.Attn.at7 m c (Proc.devRef .tc Cert.KernelIdeal.main_v36) := by
  obtain ⟨h0, h1, h2⟩ := Cert.Finite.args_real m h c
  refine (Cert.ReferenceIdeal.Read.val_main_v71_eq m' c).trans ?_
  rw [e0, e1, e2]
  funext i
  exact (Cert.RefValue.v71_eq _ _ _ h0 h1 h2 i).trans (Cert.KernelIdeal.Attn.result_at c m h0 h1 h2 i).symm

/-- Under the precondition the kernel and the reference both run, end with equal results and leave the arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) :=
  fun m g m' g' hpre hargs => ⟨fun c => Cert.KernelIdeal.Attn.at7 m c (Proc.devRef .tc Cert.KernelIdeal.main_v36),
    (θ_run Cert.KernelIdeal.defs _ _).mono (fun _ h c => h.1 c) (Cert.KernelIdeal.Attn.run_named m g),
    (θ_run Cert.ReferenceIdeal.defs _ _).mono (fun _ h c =>
      ⟨(h c).1.trans (same_result m m' hpre c (hargs c).1 (hargs c).2.1 (hargs c).2.2), (h c).2⟩)
      (Cert.ReferenceIdeal.Value.run m' g')⟩

/-- The kernel's frame, its idealization's and the reference's; the two rounded constants; and the equality of the
    kernel's result with the reference's under the finiteness of the arguments. -/
theorem claim : Cert.Claim :=
  ⟨Cert.Kernel.Gen.facts, Cert.KernelIdeal.Gen.facts, Cert.ReferenceIdeal.Gen.facts, Cert.Pre_finite.Gen.facts,
    fun m ρ _ => Cert.Kernel.Attn.frame m ρ, fun m ρ _ => Cert.KernelIdeal.Attn.frame m ρ,
    fun m ρ _ => Cert.KernelIdeal.Attn.frame m ρ, fun m ρ _ => ref_frame m ρ, fun m ρ _ => ref_frame m ρ,
    ⟨IdealRules.named_const.statement Cert.KernelIdeal.κ "qscale" .f32 0x3E0293EE#32 (((Real.log 2)⁻¹ * (Real.sqrt 128)⁻¹ : ℝ) : EReal) rfl,
      IdealRules.named_const.statement Cert.KernelIdeal.κ "mask" .f32 0xCE6E6B28#32 ⊥ rfl⟩, algebraic⟩

end Cert.Proof

end
